-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.PackStatement Cert.KernelIdeal.S512x128
  ∧ IdealRules.bf16_pair.Statement Cert.KernelIdeal.S512x2x128 Cert.KernelIdeal.S512x1x128

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v26_0) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x2048x1920 : Shape := ⟨3, ![2, 2048, 1920]⟩
abbrev S1920x2048 : Shape := ⟨2, ![1920, 2048]⟩
abbrev S15x16 : Shape := ⟨2, ![15, 16]⟩
abbrev S2x2048x15x128 : Shape := ⟨4, ![2, 2048, 15, 128]⟩
abbrev S_ : Shape := ⟨0, ![]⟩
abbrev S2x2048x15 : Shape := ⟨3, ![2, 2048, 15]⟩

class Facts : Prop where
  bitsLt_bf16_f32 : FTy.bits .bf16 < FTy.bits .f32
  shapeCasts_S2x2048x1920_S2x2048x15x128 : S2x2048x1920.ShapeCasts S2x2048x15x128
  reducesTo_S2x2048x15x128_S2x2048x15_d3 : S2x2048x15x128.ReducesTo [3] S2x2048x15
  h_S_ : 0 < S_.numel
  bcast_S_S2x2048x15 : S_.BroadcastsInDim S2x2048x15 (![] : Fin 0 → Fin S2x2048x15.rank)

variable [Facts]

def fn {F : FTy → Type} [FloatOps F] (main_arg0 : FVec F S2x2048x1920 .bf16) (main_arg1 : FVec F S1920x2048 .fp8e4m3) (main_arg2 : FVec F S15x16 .f32) : IVec S2x2048x15 1 :=
  let main_v0 : FVec F S2x2048x1920 .f32 := (extf .f32 · bitsLt_bf16_f32) main_arg0
  let main_v1 : FVec F S2x2048x15x128 .f32 := shapeCast S2x2048x15x128 main_v0 shapeCasts_S2x2048x1920_S2x2048x15x128
  let main_v2 : FVec F S2x2048x15x128 .f32 := Host.absf main_v1
  let main_cst : FVec F S_ .f32 := constant S_ .f32 0xFF800000#32
  let main_v3 : FVec F S2x2048x15 .f32 := (fun x v => Host.reduce FloatOps.maximumf x v reducesTo_S2x2048x15x128_S2x2048x15_d3 h_S_) main_v2 main_cst
  let main_cst_0 : FVec F S_ .f32 := constant S_ .f32 0x00000000#32
  let main_v4 : FVec F S2x2048x15 .f32 := broadcastInDim S2x2048x15 ![] bcast_S_S2x2048x15 main_cst_0
  let main_v5 : IVec S2x2048x15 1 := cmpf .oeq main_v3 main_v4
  let main_cst_1 : FVec F S_ .f32 := constant S_ .f32 0x04E00000#32
  let main_v6 : FVec F S2x2048x15 .f32 := broadcastInDim S2x2048x15 ![] bcast_S_S2x2048x15 main_cst_1
  let main_v7 : IVec S2x2048x15 1 := cmpf .oge main_v3 main_v6
  let main_cst_2 : FVec F S_ .f32 := constant S_ .f32 0x7F600000#32
  let main_v8 : FVec F S2x2048x15 .f32 := broadcastInDim S2x2048x15 ![] bcast_S_S2x2048x15 main_cst_2
  let main_v9 : IVec S2x2048x15 1 := cmpf .olt main_v3 main_v8
  let main_v10 : IVec S2x2048x15 1 := andi main_v7 main_v9
  let main_v11 : IVec S2x2048x15 1 := ori main_v5 main_v10
  main_v11
-- ==== Kernel.lean ====
abbrev S2x2048x1920 : Shape := ⟨3, ![2, 2048, 1920]⟩
abbrev S1920x2048 : Shape := ⟨2, ![1920, 2048]⟩
abbrev S15x16 : Shape := ⟨2, ![15, 16]⟩
abbrev S4096x1920 : Shape := ⟨2, ![4096, 1920]⟩
abbrev S4096x16x128 : Shape := ⟨3, ![4096, 16, 128]⟩
abbrev S4096x15 : Shape := ⟨2, ![4096, 15]⟩
abbrev S512x1920 : Shape := ⟨2, ![512, 1920]⟩
abbrev S512x16x128 : Shape := ⟨3, ![512, 16, 128]⟩
abbrev S512x15 : Shape := ⟨2, ![512, 15]⟩
abbrev S16x128 : Shape := ⟨2, ![16, 128]⟩
abbrev S8x128 : Shape := ⟨2, ![8, 128]⟩
abbrev S8x128x1 : Shape := ⟨3, ![8, 128, 1]⟩
abbrev S32x128 : Shape := ⟨2, ![32, 128]⟩
abbrev S1x128 : Shape := ⟨2, ![1, 128]⟩
abbrev S32x128x1 : Shape := ⟨3, ![32, 128, 1]⟩
abbrev S512x128 : Shape := ⟨2, ![512, 128]⟩
abbrev S512 : Shape := ⟨1, ![512]⟩
abbrev S512x1 : Shape := ⟨2, ![512, 1]⟩
abbrev S1920x256 : Shape := ⟨2, ![1920, 256]⟩
abbrev S512x256 : Shape := ⟨2, ![512, 256]⟩
abbrev S512x8x128 : Shape := ⟨3, ![512, 8, 128]⟩
abbrev S512x1x128 : Shape := ⟨3, ![512, 1, 128]⟩
abbrev S512x2x128 : Shape := ⟨3, ![512, 2, 128]⟩

abbrev nBuf : Space → Nat
  | .hbm => 7
  | .vmem => 13
  | .smem => 0
  | _ => 0

abbrev bufTy : (tb : Table) → Fin (tcTables nBuf tb) → BufTy
  | .hbm, ⟨0, _⟩ => ⟨S2x2048x1920, .bf16⟩
  | .hbm, ⟨1, _⟩ => ⟨S1920x2048, .fp8e4m3⟩
  | .hbm, ⟨2, _⟩ => ⟨S15x16, .f32⟩
  | .hbm, ⟨3, _⟩ => ⟨S4096x1920, .bf16⟩
  | .hbm, ⟨4, _⟩ => ⟨S4096x16x128, .bf16⟩
  | .hbm, ⟨5, _⟩ => ⟨S4096x1920, .fp8e4m3⟩
  | .hbm, ⟨6, _⟩ => ⟨S4096x15, .f32⟩
  | .local _ .vmem, ⟨0, _⟩ => ⟨S512x1920, .bf16⟩
  | .local _ .vmem, ⟨1, _⟩ => ⟨S512x1920, .bf16⟩
  | .local _ .vmem, ⟨2, _⟩ => ⟨S1920x2048, .fp8e4m3⟩
  | .local _ .vmem, ⟨3, _⟩ => ⟨S15x16, .f32⟩
  | .local _ .vmem, ⟨4, _⟩ => ⟨S512x16x128, .bf16⟩
  | .local _ .vmem, ⟨5, _⟩ => ⟨S512x16x128, .bf16⟩
  | .local _ .vmem, ⟨6, _⟩ => ⟨S512x1920, .fp8e4m3⟩
  | .local _ .vmem, ⟨7, _⟩ => ⟨S512x1920, .fp8e4m3⟩
  | .local _ .vmem, ⟨8, _⟩ => ⟨S512x15, .f32⟩
  | .local _ .vmem, ⟨9, _⟩ => ⟨S512x15, .f32⟩
  | .local _ .vmem, ⟨10, _⟩ => ⟨S1920x2048, .bf16⟩
  | .local _ .vmem, ⟨11, _⟩ => ⟨S16x128, .f32⟩
  | .local _ .vmem, ⟨12, _⟩ => ⟨S512x1920, .bf16⟩
  | _, _ => ⟨S2x2048x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_724 : BitVec 32 := 0#32
  let c15_i32 : BitVec 32 := 15#32
  let v1920 : BitVec 32 := Scalar.addi c0_i32_724 c15_i32
  let c1_i32_725 : BitVec 32 := 1#32
  ⟨c0_i32_724, v1920, c1_i32_725⟩
def k0_off1 (k0_t1 : Fin k0_t1_loop.trips) : Fin 2 → Nat :=
  let c0_i32_724 : BitVec 32 := 0#32
  let c1_i32_725 : BitVec 32 := 1#32
  let arg10 : BitVec 32 := Scf.iv c0_i32_724 c1_i32_725 k0_t1
  let v1921 : Index := Scalar.indexCast arg10
  let c0_727 : Index := 0#32
  ![v1921.toNat, 0]
def k0_mult1 (k0_t1 : Fin k0_t1_loop.trips) : BitVec 32 :=
  let c0_i32_724 : BitVec 32 := 0#32
  let c1_i32_725 : BitVec 32 := 1#32
  let arg10 : BitVec 32 := Scf.iv c0_i32_724 c1_i32_725 k0_t1
  let c128_i32_728 : BitVec 32 := 128#32
  let v1924 : BitVec 32 := Scalar.muli arg10 c128_i32_728
  let c0_i32_729 : BitVec 32 := 0#32
  let v1925 : BitVec 32 := Scalar.addi v1924 c0_i32_729
  v1925
def k0_off2 (k0_t1 : Fin k0_t1_loop.trips) (c0_i32_729 : BitVec 32) : Fin 2 → Nat :=
  let c0_i32_724 : BitVec 32 := 0#32
  let c1_i32_725 : BitVec 32 := 1#32
  let arg10 : BitVec 32 := Scf.iv c0_i32_724 c1_i32_725 k0_t1
  let c128_i32_728 : BitVec 32 := 128#32
  let v1924 : BitVec 32 := Scalar.muli arg10 c128_i32_728
  let v1925 : BitVec 32 := Scalar.addi v1924 c0_i32_729
  let v1926 : BitVec 32 := v1925
  let v1927 : Index := Scalar.indexCast v1926
  let c0_730 : Index := 0#32
  ![v1927.toNat, 0]
def k0_off3 (k0_t1 : Fin k0_t1_loop.trips) (c0_i32_729 : BitVec 32) : Fin 2 → Nat :=
  let c0_i32_724 : BitVec 32 := 0#32
  let c1_i32_725 : BitVec 32 := 1#32
  let arg10 : BitVec 32 := Scf.iv c0_i32_724 c1_i32_725 k0_t1
  let c128_i32_728 : BitVec 32 := 128#32
  let v1924 : BitVec 32 := Scalar.muli arg10 c128_i32_728
  let v1925 : BitVec 32 := Scalar.addi v1924 c0_i32_729
  let v1926 : BitVec 32 := v1925
  let v1930 : Index := Scalar.indexCast v1926
  let c128_731 : Index := 128#32
  ![v1930.toNat, 128]
def k0_off4 (k0_t1 : Fin k0_t1_loop.trips) (c0_i32_729 : BitVec 32) : Fin 2 → Nat :=
  let c0_i32_724 : BitVec 32 := 0#32
  let c1_i32_725 : BitVec 32 := 1#32
  let arg10 : BitVec 32 := Scf.iv c0_i32_724 c1_i32_725 k0_t1
  let c128_i32_728 : BitVec 32 := 128#32
  let v1924 : BitVec 32 := Scalar.muli arg10 c128_i32_728
  let v1925 : BitVec 32 := Scalar.addi v1924 c0_i32_729
  let v1926 : BitVec 32 := v1925
  let v1933 : Index := Scalar.indexCast v1926
  let c256_732 : Index := 256#32
  ![v1933.toNat, 256]
def k0_off5 (k0_t1 : Fin k0_t1_loop.trips) (c0_i32_729 : BitVec 32) : Fin 2 → Nat :=
  let c0_i32_724 : BitVec 32 := 0#32
  let c1_i32_725 : BitVec 32 := 1#32
  let arg10 : BitVec 32 := Scf.iv c0_i32_724 c1_i32_725 k0_t1
  let c128_i32_728 : BitVec 32 := 128#32
  let v1924 : BitVec 32 := Scalar.muli arg10 c128_i32_728
  let v1925 : BitVec 32 := Scalar.addi v1924 c0_i32_729
  let v1926 : BitVec 32 := v1925
  let v1936 : Index := Scalar.indexCast v1926
  let c384_733 : Index := 384#32
  ![v1936.toNat, 384]
def k0_off6 (k0_t1 : Fin k0_t1_loop.trips) (c0_i32_729 : BitVec 32) : Fin 2 → Nat :=
  let c0_i32_724 : BitVec 32 := 0#32
  let c1_i32_725 : BitVec 32 := 1#32
  let arg10 : BitVec 32 := Scf.iv c0_i32_724 c1_i32_725 k0_t1
  let c128_i32_728 : BitVec 32 := 128#32
  let v1924 : BitVec 32 := Scalar.muli arg10 c128_i32_728
  let v1925 : BitVec 32 := Scalar.addi v1924 c0_i32_729
  let v1926 : BitVec 32 := v1925
  let v1939 : Index := Scalar.indexCast v1926
  let c512_734 : Index := 512#32
  ![v1939.toNat, 512]
def k0_off7 (k0_t1 : Fin k0_t1_loop.trips) (c0_i32_729 : BitVec 32) : Fin 2 → Nat :=
  let c0_i32_724 : BitVec 32 := 0#32
  let c1_i32_725 : BitVec 32 := 1#32
  let arg10 : BitVec 32 := Scf.iv c0_i32_724 c1_i32_725 k0_t1
  let c128_i32_728 : BitVec 32 := 128#32
  let v1924 : BitVec 32 := Scalar.muli arg10 c128_i32_728
  let v1925 : BitVec 32 := Scalar.addi v1924 c0_i32_729
  let v1926 : BitVec 32 := v1925
  let v1942 : Index := Scalar.indexCast v1926
  let c640_735 : Index := 640#32
  ![v1942.toNat, 640]
def k0_off8 (k0_t1 : Fin k0_t1_loop.trips) (c0_i32_729 : BitVec 32) : Fin 2 → Nat :=
  let c0_i32_724 : BitVec 32 := 0#32
  let c1_i32_725 : BitVec 32 := 1#32
  let arg10 : BitVec 32 := Scf.iv c0_i32_724 c1_i32_725 k0_t1
  let c128_i32_728 : BitVec 32 := 128#32
  let v1924 : BitVec 32 := Scalar.muli arg10 c128_i32_728
  let v1925 : BitVec 32 := Scalar.addi v1924 c0_i32_729
  let v1926 : BitVec 32 := v1925
  let v1945 : Index := Scalar.indexCast v1926
  let c768_736 : Index := 768#32
  ![v1945.toNat, 768]
def k0_off9 (k0_t1 : Fin k0_t1_loop.trips) (c0_i32_729 : BitVec 32) : Fin 2 → Nat :=
  let c0_i32_724 : BitVec 32 := 0#32
  let c1_i32_725 : BitVec 32 := 1#32
  let arg10 : BitVec 32 := Scf.iv c0_i32_724 c1_i32_725 k0_t1
  let c128_i32_728 : BitVec 32 := 128#32
  let v1924 : BitVec 32 := Scalar.muli arg10 c128_i32_728
  let v1925 : BitVec 32 := Scalar.addi v1924 c0_i32_729
  let v1926 : BitVec 32 := v1925
  let v1948 : Index := Scalar.indexCast v1926
  let c896_737 : Index := 896#32
  ![v1948.toNat, 896]
def k0_off10 (k0_t1 : Fin k0_t1_loop.trips) (c0_i32_729 : BitVec 32) : Fin 2 → Nat :=
  let c0_i32_724 : BitVec 32 := 0#32
  let c1_i32_725 : BitVec 32 := 1#32
  let arg10 : BitVec 32 := Scf.iv c0_i32_724 c1_i32_725 k0_t1
  let c128_i32_728 : BitVec 32 := 128#32
  let v1924 : BitVec 32 := Scalar.muli arg10 c128_i32_728
  let v1925 : BitVec 32 := Scalar.addi v1924 c0_i32_729
  let v1926 : BitVec 32 := v1925
  let v1951 : Index := Scalar.indexCast v1926
  let c1024_738 : Index := 1024#32
  ![v1951.toNat, 1024]
def k0_off11 (k0_t1 : Fin k0_t1_loop.trips) (c0_i32_729 : BitVec 32) : Fin 2 → Nat :=
  let c0_i32_724 : BitVec 32 := 0#32
  let c1_i32_725 : BitVec 32 := 1#32
  let arg10 : BitVec 32 := Scf.iv c0_i32_724 c1_i32_725 k0_t1
  let c128_i32_728 : BitVec 32 := 128#32
  let v1924 : BitVec 32 := Scalar.muli arg10 c128_i32_728
  let v1925 : BitVec 32 := Scalar.addi v1924 c0_i32_729
  let v1926 : BitVec 32 := v1925
  let v1954 : Index := Scalar.indexCast v1926
  let c1152_739 : Index := 1152#32
  ![v1954.toNat, 1152]
def k0_off12 (k0_t1 : Fin k0_t1_loop.trips) (c0_i32_729 : BitVec 32) : Fin 2 → Nat :=
  let c0_i32_724 : BitVec 32 := 0#32
  let c1_i32_725 : BitVec 32 := 1#32
  let arg10 : BitVec 32 := Scf.iv c0_i32_724 c1_i32_725 k0_t1
  let c128_i32_728 : BitVec 32 := 128#32
  let v1924 : BitVec 32 := Scalar.muli arg10 c128_i32_728
  let v1925 : BitVec 32 := Scalar.addi v1924 c0_i32_729
  let v1926 : BitVec 32 := v1925
  let v1957 : Index := Scalar.indexCast v1926
  let c1280_740 : Index := 1280#32
  ![v1957.toNat, 1280]
def k0_off13 (k0_t1 : Fin k0_t1_loop.trips) (c0_i32_729 : BitVec 32) : Fin 2 → Nat :=
  let c0_i32_724 : BitVec 32 := 0#32
  let c1_i32_725 : BitVec 32 := 1#32
  let arg10 : BitVec 32 := Scf.iv c0_i32_724 c1_i32_725 k0_t1
  let c128_i32_728 : BitVec 32 := 128#32
  let v1924 : BitVec 32 := Scalar.muli arg10 c128_i32_728
  let v1925 : BitVec 32 := Scalar.addi v1924 c0_i32_729
  let v1926 : BitVec 32 := v1925
  let v1960 : Index := Scalar.indexCast v1926
  let c1408_741 : Index := 1408#32
  ![v1960.toNat, 1408]
def k0_off14 (k0_t1 : Fin k0_t1_loop.trips) (c0_i32_729 : BitVec 32) : Fin 2 → Nat :=
  let c0_i32_724 : BitVec 32 := 0#32
  let c1_i32_725 : BitVec 32 := 1#32
  let arg10 : BitVec 32 := Scf.iv c0_i32_724 c1_i32_725 k0_t1
  let c128_i32_728 : BitVec 32 := 128#32
  let v1924 : BitVec 32 := Scalar.muli arg10 c128_i32_728
  let v1925 : BitVec 32 := Scalar.addi v1924 c0_i32_729
  let v1926 : BitVec 32 := v1925
  let v1963 : Index := Scalar.indexCast v1926
  let c1536_742 : Index := 1536#32
  ![v1963.toNat, 1536]
def k0_off15 (k0_t1 : Fin k0_t1_loop.trips) (c0_i32_729 : BitVec 32) : Fin 2 → Nat :=
  let c0_i32_724 : BitVec 32 := 0#32
  let c1_i32_725 : BitVec 32 := 1#32
  let arg10 : BitVec 32 := Scf.iv c0_i32_724 c1_i32_725 k0_t1
  let c128_i32_728 : BitVec 32 := 128#32
  let v1924 : BitVec 32 := Scalar.muli arg10 c128_i32_728
  let v1925 : BitVec 32 := Scalar.addi v1924 c0_i32_729
  let v1926 : BitVec 32 := v1925
  let v1966 : Index := Scalar.indexCast v1926
  let c1664_743 : Index := 1664#32
  ![v1966.toNat, 1664]
def k0_off16 (k0_t1 : Fin k0_t1_loop.trips) (c0_i32_729 : BitVec 32) : Fin 2 → Nat :=
  let c0_i32_724 : BitVec 32 := 0#32
  let c1_i32_725 : BitVec 32 := 1#32
  let arg10 : BitVec 32 := Scf.iv c0_i32_724 c1_i32_725 k0_t1
  let c128_i32_728 : BitVec 32 := 128#32
  let v1924 : BitVec 32 := Scalar.muli arg10 c128_i32_728
  let v1925 : BitVec 32 := Scalar.addi v1924 c0_i32_729
  let v1926 : BitVec 32 := v1925
  let v1969 : Index := Scalar.indexCast v1926
  let c1792_744 : Index := 1792#32
  ![v1969.toNat, 1792]
def k0_off17 (k0_t1 : Fin k0_t1_loop.trips) (c0_i32_729 : BitVec 32) : Fin 2 → Nat :=
  let c0_i32_724 : BitVec 32 := 0#32
  let c1_i32_725 : BitVec 32 := 1#32
  let arg10 : BitVec 32 := Scf.iv c0_i32_724 c1_i32_725 k0_t1
  let c128_i32_728 : BitVec 32 := 128#32
  let v1924 : BitVec 32 := Scalar.muli arg10 c128_i32_728
  let v1925 : BitVec 32 := Scalar.addi v1924 c0_i32_729
  let v1926 : BitVec 32 := v1925
  let v1972 : Index := Scalar.indexCast v1926
  let c1920 : Index := 1920#32
  ![v1972.toNat, 1920]
def k0_mult2 (k0_t1 : Fin k0_t1_loop.trips) : BitVec 32 :=
  let c0_i32_724 : BitVec 32 := 0#32
  let c1_i32_725 : BitVec 32 := 1#32
  let arg10 : BitVec 32 := Scf.iv c0_i32_724 c1_i32_725 k0_t1
  let c128_i32_934 : BitVec 32 := 128#32
  let v2679 : BitVec 32 := Scalar.muli arg10 c128_i32_934
  let c32_i32_935 : BitVec 32 := 32#32
  let v2680 : BitVec 32 := Scalar.addi v2679 c32_i32_935
  v2680
def k0_mult3 (k0_t1 : Fin k0_t1_loop.trips) : BitVec 32 :=
  let c0_i32_724 : BitVec 32 := 0#32
  let c1_i32_725 : BitVec 32 := 1#32
  let arg10 : BitVec 32 := Scf.iv c0_i32_724 c1_i32_725 k0_t1
  let c128_i32_1167 : BitVec 32 := 128#32
  let v3434 : BitVec 32 := Scalar.muli arg10 c128_i32_1167
  let c64_i32_1168 : BitVec 32 := 64#32
  let v3435 : BitVec 32 := Scalar.addi v3434 c64_i32_1168
  v3435
def k0_mult4 (k0_t1 : Fin k0_t1_loop.trips) : BitVec 32 :=
  let c0_i32_724 : BitVec 32 := 0#32
  let c1_i32_725 : BitVec 32 := 1#32
  let arg10 : BitVec 32 := Scf.iv c0_i32_724 c1_i32_725 k0_t1
  let c128_i32_1400 : BitVec 32 := 128#32
  let v4189 : BitVec 32 := Scalar.muli arg10 c128_i32_1400
  let c96_i32_1401 : BitVec 32 := 96#32
  let v4190 : BitVec 32 := Scalar.addi v4189 c96_i32_1401
  v4190
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1920x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S15x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x16x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1920 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x15 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F]
-- ==== ReferenceIdeal.lean ====
abbrev S2x2048x1920 : Shape := ⟨3, ![2, 2048, 1920]⟩
abbrev S1920x2048 : Shape := ⟨2, ![1920, 2048]⟩
abbrev S15x16 : Shape := ⟨2, ![15, 16]⟩
abbrev S2x2048x15x128 : Shape := ⟨4, ![2, 2048, 15, 128]⟩
abbrev S_ : Shape := ⟨0, ![]⟩
abbrev S2x2048x15 : Shape := ⟨3, ![2, 2048, 15]⟩
abbrev S2x2048x15x1 : Shape := ⟨4, ![2, 2048, 15, 1]⟩
abbrev S4096x1920 : Shape := ⟨2, ![4096, 1920]⟩
abbrev S15x128x16x128 : Shape := ⟨4, ![15, 128, 16, 128]⟩
abbrev S15x1x16x1 : Shape := ⟨4, ![15, 1, 16, 1]⟩
abbrev S2x2048x2048 : Shape := ⟨3, ![2, 2048, 2048]⟩
abbrev S2x2048x128x16 : Shape := ⟨4, ![2, 2048, 128, 16]⟩
abbrev S2x2048x16x128 : Shape := ⟨4, ![2, 2048, 16, 128]⟩
abbrev S4096x16x128 : Shape := ⟨3, ![4096, 16, 128]⟩
abbrev S4096x15 : Shape := ⟨2, ![4096, 15]⟩

abbrev nBuf : Space → Nat
  | .hbm => 67
  | .vmem => 5
  | .smem => 0
  | _ => 0

abbrev bufTy : (tb : Table) → Fin (tcTables nBuf tb) → BufTy
  | .hbm, ⟨0, _⟩ => ⟨S2x2048x1920, .bf16⟩
  | .hbm, ⟨1, _⟩ => ⟨S1920x2048, .fp8e4m3⟩
  | .hbm, ⟨2, _⟩ => ⟨S15x16, .f32⟩
  | .hbm, ⟨3, _⟩ => ⟨S2x2048x1920, .f32⟩
  | .hbm, ⟨4, _⟩ => ⟨S2x2048x15x128, .f32⟩
  | .hbm, ⟨5, _⟩ => ⟨S2x2048x15x128, .f32⟩
  | .hbm, ⟨6, _⟩ => ⟨S_, .f32⟩
  | .hbm, ⟨7, _⟩ => ⟨S2x2048x15, .f32⟩
  | .hbm, ⟨8, _⟩ => ⟨S_, .f32⟩
  | .hbm, ⟨9, _⟩ => ⟨S2x2048x15, .f32⟩
  | .hbm, ⟨10, _⟩ => ⟨S2x2048x15, .f32⟩
  | .hbm, ⟨11, _⟩ => ⟨S2x2048x15, .f32⟩
  | .hbm, ⟨12, _⟩ => ⟨S_, .f32⟩
  | .hbm, ⟨13, _⟩ => ⟨S2x2048x15, .f32⟩
  | .hbm, ⟨14, _⟩ => ⟨S2x2048x15, .f32⟩
  | .hbm, ⟨15, _⟩ => ⟨S2x2048x15, .f32⟩
  | .hbm, ⟨16, _⟩ => ⟨S2x2048x15, .f32⟩
  | .hbm, ⟨17, _⟩ => ⟨S_, .f32⟩
  | .hbm, ⟨18, _⟩ => ⟨S2x2048x15, .f32⟩
  | .hbm, ⟨19, _⟩ => ⟨S2x2048x15, .f32⟩
  | .hbm, ⟨20, _⟩ => ⟨S_, .f32⟩
  | .hbm, ⟨21, _⟩ => ⟨S2x2048x15, .f32⟩
  | .hbm, ⟨22, _⟩ => ⟨S2x2048x15, .i1⟩
  | .hbm, ⟨23, _⟩ => ⟨S_, .f32⟩
  | .hbm, ⟨24, _⟩ => ⟨S_, .f32⟩
  | .hbm, ⟨25, _⟩ => ⟨S2x2048x15, .f32⟩
  | .hbm, ⟨26, _⟩ => ⟨S2x2048x15, .f32⟩
  | .hbm, ⟨27, _⟩ => ⟨S_, .f32⟩
  | .hbm, ⟨28, _⟩ => ⟨S2x2048x15, .f32⟩
  | .hbm, ⟨29, _⟩ => ⟨S2x2048x15, .f32⟩
  | .hbm, ⟨30, _⟩ => ⟨S2x2048x15, .f32⟩
  | .hbm, ⟨31, _⟩ => ⟨S_, .f32⟩
  | .hbm, ⟨32, _⟩ => ⟨S2x2048x15, .f32⟩
  | .hbm, ⟨33, _⟩ => ⟨S2x2048x15, .f32⟩
  | .hbm, ⟨34, _⟩ => ⟨S2x2048x15x1, .f32⟩
  | .hbm, ⟨35, _⟩ => ⟨S2x2048x15x128, .f32⟩
  | .hbm, ⟨36, _⟩ => ⟨S2x2048x15x128, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2x2048x15x128, .f32⟩
  | .hbm, ⟨41, _⟩ => ⟨S2x2048x15x128, .f32⟩
  | .hbm, ⟨42, _⟩ => ⟨S_, .f32⟩
  | .hbm, ⟨43, _⟩ => ⟨S2x2048x15x128, .f32⟩
  | .hbm, ⟨44, _⟩ => ⟨S2x2048x15x128, .f32⟩
  | .hbm, ⟨45, _⟩ => ⟨S4096x1920, .f32⟩
  | .hbm, ⟨46, _⟩ => ⟨S4096x1920, .fp8e4m3⟩
  | .hbm, ⟨47, _⟩ => ⟨S4096x1920, .bf16⟩
  | .hbm, ⟨48, _⟩ => ⟨S1920x2048, .bf16⟩
  | .hbm, ⟨49, _⟩ => ⟨S2x2048x15x128, .bf16⟩
  | .hbm, ⟨50, _⟩ => ⟨S2x2048x15, .bf16⟩
  | .hbm, ⟨51, _⟩ => ⟨S2x2048x15x1, .bf16⟩
  | .hbm, ⟨52, _⟩ => ⟨S2x2048x15x128, .bf16⟩
  | .hbm, ⟨53, _⟩ => ⟨S2x2048x15x128, .bf16⟩
  | .hbm, ⟨54, _⟩ => ⟨S2x2048x1920, .bf16⟩
  | .hbm, ⟨55, _⟩ => ⟨S15x128x16x128, .bf16⟩
  | .hbm, ⟨56, _⟩ => ⟨S15x16, .bf16⟩
  | .hbm, ⟨57, _⟩ => ⟨S15x1x16x1, .bf16⟩
  | .hbm, ⟨58, _⟩ => ⟨S15x128x16x128, .bf16⟩
  | .hbm, ⟨59, _⟩ => ⟨S15x128x16x128, .bf16⟩
  | .hbm, ⟨60, _⟩ => ⟨S1920x2048, .bf16⟩
  | .hbm, ⟨61, _⟩ => ⟨S2x2048x2048, .f32⟩
  | .hbm, ⟨62, _⟩ => ⟨S2x2048x128x16, .f32⟩
  | .hbm, ⟨63, _⟩ => ⟨S2x2048x16x128, .f32⟩
  | .hbm, ⟨64, _⟩ => ⟨S2x2048x16x128, .bf16⟩
  | .hbm, ⟨65, _⟩ => ⟨S4096x16x128, .bf16⟩
  | .hbm, ⟨66, _⟩ => ⟨S4096x15, .f32⟩
  | .local _ .vmem, ⟨0, _⟩ => ⟨S4096x1920, .f32⟩
  | .local _ .vmem, ⟨1, _⟩ => ⟨S1920x2048, .fp8e4m3⟩
  | .local _ .vmem, ⟨2, _⟩ => ⟨S4096x1920, .fp8e4m3⟩
  | .local _ .vmem, ⟨3, _⟩ => ⟨S4096x1920, .bf16⟩
  | .local _ .vmem, ⟨4, _⟩ => ⟨S1920x2048, .bf16⟩
  | _, _ => ⟨S2x2048x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_cst_8 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v24 : Ref sig .tc := ⟨.hbm, 44, rfl⟩
abbrev main_v25 : Ref sig .tc := ⟨.hbm, 45, rfl⟩
abbrev main_v26_0 : Ref sig .tc := ⟨.hbm, 46, rfl⟩
abbrev main_v26_1 : Ref sig .tc := ⟨.hbm, 47, rfl⟩
abbrev main_v26_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x1920 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1920 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.RefTerm.lean ====
module
public import proofs.«01_k».proof.Proof.Gen.ReferenceIdeal.Run

/-! The reference's terms before its kernel call: the exponents, the scales and the clipped tokens. -/

@[expose] public section

noncomputable section

namespace Cert.ReferenceIdeal.Term
open Idealize.ShloMosaic Idealize.ShloMosaic.TcCoe Cert.ReferenceIdeal Cert.ReferenceIdeal.Gen Idealize.ShloMosaic.StableHlo

variable {F : FTy → Type} [FloatOps F]

/-- The tokens in groups of 128. -/
def groups (x : FVec F S2x2048x1920 .bf16) : FVec F S2x2048x15x128 .f32 :=
  shapeCast _ (extf .f32 x bitsLt_bf16_f32) shapeCasts_S2x2048x1920_S2x2048x15x128

/-- The largest magnitude of every group. -/
def largest (x : FVec F S2x2048x1920 .bf16) : FVec F S2x2048x15 .f32 :=
  Host.reduce FloatOps.maximumf (Host.absf (groups x)) (constant S_ .f32 0xFF800000#32)
    reducesTo_S2x2048x15x128_S2x2048x15_d3 h_S_

/-- One number at every group. -/
def every (b : BitVec 32) : FVec F S2x2048x15 .f32 :=
  broadcastInDim S2x2048x15 ![] bcast_S_S2x2048x15 (constant S_ .f32 b)

/-- The exponent of every group. -/
def exponent (x : FVec F S2x2048x1920 .bf16) : FVec F S2x2048x15 .f32 :=
  select (cmpf .oeq (largest x) (every 0x00000000#32))
    (broadcastInDim S2x2048x15 ![] bcast_S_S2x2048x15 (id (constant S_ .f32 0x00000000#32)))
    (addf (Host.floor (Host.divf (Host.log (Host.divf (largest x) (every 0x43E00000#32))) (Host.log (every 0x40000000#32))))
      (every 0x3F800000#32))

/-- The scale of every group. -/
def scales (x : FVec F S2x2048x1920 .bf16) : FVec F S2x2048x15 .f32 :=
  Host.powf (every 0x40000000#32) (exponent x)

/-- The inverse scale of every group. -/
def inverses (x : FVec F S2x2048x1920 .bf16) : FVec F S2x2048x15 .f32 :=
  Host.powf (every 0x40000000#32) (Host.negf (exponent x))

/-- The tokens divided by their scale and clipped, in groups. -/
def clipped (x : FVec F S2x2048x1920 .bf16) : FVec F S2x2048x15x128 .f32 :=
  minimumf (broadcastInDim S2x2048x15x128 ![] bcast_S_S2x2048x15x128 (id (constant S_ .f32 0x43E00000#32)))
    (maximumf (broadcastInDim S2x2048x15x128 ![] bcast_S_S2x2048x15x128 (id (constant S_ .f32 0xC3E00000#32)))
      (mulf (groups x) (broadcastInDim S2x2048x15x128 ![0, 1, 2, 3] bcast_S2x2048x15x1_S2x2048x15x128_0_1_2_3
        (broadcastInDim S2x2048x15x1 ![0, 1, 2] bcast_S2x2048x15_S2x2048x15x1_0_1_2 (inverses x)))))

/-- The clipped tokens, a row of 1920 each. -/
def rows (x : FVec F S2x2048x1920 .bf16) : FVec F S4096x1920 .f32 :=
  shapeCast _ (clipped x) shapeCasts_S2x2048x15x128_S4096x1920

variable (m : (ℓ : Loc nD τ sig) → Buf (Elt F) ℓ)

set_option maxRecDepth 8192 in
set_option maxHeartbeats 4000000 in
/-- What the kernel call is given: the clipped tokens. -/
theorem V_rows (c : Dev nD) : Gen.V m c main_v25 = rows (m ((c.tc : Thread nD τ).loc main_arg0)) := by
  show Gen.V0 m c (Proc.devRef .tc main_v25) = _
  simp only [Gen.V0, Gen.hostOps0, Gen.hostOps0_1, Gen.hostOps0_2, Gen.hostOps0_3, Gen.hostOps0_4, TRef.binary, TRef.ternary, TRef.unary, TRef.toBuf, TRef.ofBuf, cast_eq, List.flatten_cons, List.flatten_nil, List.append_nil, List.cons_append, List.nil_append]
  after_results_simp <;> rfl

end Cert.ReferenceIdeal.Term
-- ==== Proof.Quant.lean ====
module
public import proofs.«01_k».proof.Proof.Gen.KernelIdeal.Frame
public import Idealize.ShloMosaic.Lib.Pipeline.ValueKit

/-! The kernel's quantiser for one group of 128 columns, written once in the kernel's own vector
operations.  The fifteen groups of a block are fifteen copies of it. -/

@[expose] public section

namespace Cert.KernelIdeal.Quant
open Idealize.ShloMosaic Cert.KernelIdeal Cert.KernelIdeal.Gen
variable {F : FTy → Type} [FloatOps F]

/-- A bf16 constant on every entry of a block. -/
noncomputable def cst (w : BitVec 16) : FVec F S512x128 .bf16 :=
  broadcast S512x128 (Scalar.ofBits .bf16 w : F .bf16)

/-- The largest magnitude of each row, on every lane of the row. -/
noncomputable def amaxV (x : FVec F S512x128 .bf16) : FVec F S512x128 .bf16 :=
  truncf .bf16 (broadcastTo S512x128 (shapeCast S512x1 (shapeCast S512x1
    (multiReduction .maximumf [1] S512 (absf (extf .f32 x bitsLt_bf16_f32)) 0xFF800000#32
      reduces_S512x128_S512 (.inl rfl) rfl) shapeCasts_S512_S512x1) shapeCasts_S512x1_S512x1)
      broadcasts_S512x1_S512x128)

/-- Whether the next rung `p * b` of the ladder is reached. -/
noncomputable def reachV (b : BitVec 16) (a p : FVec F S512x128 .bf16) : IVec S512x128 1 :=
  cmpf .oge a (mulf (mulf p (cst b)) (cst 0x3F60#16))

/-- One step of the ladder on the power of two. -/
noncomputable def stepP (b : BitVec 16) (a p : FVec F S512x128 .bf16) : FVec F S512x128 .bf16 :=
  select (reachV b a p) (mulf p (cst b)) p

/-- One step of the ladder on its inverse. -/
noncomputable def stepI (b d : BitVec 16) (a p q : FVec F S512x128 .bf16) :
    FVec F S512x128 .bf16 :=
  select (reachV b a p) (mulf q (cst d)) q

/-- One step of the ladder on the pair of the power and its inverse. -/
noncomputable def step (b d : BitVec 16) (a : FVec F S512x128 .bf16)
    (s : FVec F S512x128 .bf16 × FVec F S512x128 .bf16) :
    FVec F S512x128 .bf16 × FVec F S512x128 .bf16 :=
  (stepP b a s.1, stepI b d a s.1 s.2)

/-- The nine steps of the ladder. -/
noncomputable def ladder (a : FVec F S512x128 .bf16) :
    FVec F S512x128 .bf16 × FVec F S512x128 .bf16 :=
  step 0x4000#16 0x3F00#16 a (step 0x4080#16 0x3E80#16 a (step 0x4180#16 0x3D80#16 a
    (step 0x4380#16 0x3B80#16 a (step 0x4780#16 0x3780#16 a (step 0x4F80#16 0x2F80#16 a
      (step 0x5F80#16 0x1F80#16 a (step 0x5F80#16 0x1F80#16 a (step 0x5F80#16 0x1F80#16 a
        (cst 0x0480#16, cst 0x7E80#16)))))))))

/-- Whether the power of two found is above the smallest rung. -/
noncomputable def normalV (x : FVec F S512x128 .bf16) : IVec S512x128 1 :=
  cmpf .oge (ladder (amaxV x)).1 (cst 0x0500#16)

/-- The scale of each row. -/
noncomputable def scaleV (x : FVec F S512x128 .bf16) : FVec F S512x128 .bf16 :=
  select (normalV x) (mulf (ladder (amaxV x)).1 (cst 0x3B80#16)) (cst 0x3F80#16)

/-- The inverse of the scale of each row. -/
noncomputable def invV (x : FVec F S512x128 .bf16) : FVec F S512x128 .bf16 :=
  select (normalV x) (ladder (amaxV x)).2 (cst 0x3F80#16)

/-- The codes of a group. -/
noncomputable def codesV (x : FVec F S512x128 .bf16) : FVec F S512x128 .fp8e4m3 :=
  truncf .fp8e4m3 (minimumf (cst 0x43E0#16) (maximumf (cst 0xC3E0#16) (mulf x (invV x))))
    bitsLt_fp8e4m3_bf16

/-- The dequantised values of a group. -/
noncomputable def deqV (x : FVec F S512x128 .bf16) : FVec F S512x128 .bf16 :=
  mulf (extf .bf16 (codesV x) bitsLt_fp8e4m3_bf16) (scaleV x)

end Cert.KernelIdeal.Quant
-- ==== Proof.Tiles.lean ====
module
public import proofs.«01_k».proof.Proof.Quant
public import Idealize.ShloMosaic.Lib.Pointwise
public import Idealize.ShloMosaic.Lib.Pipeline.ReadBack

/-! Blocks of 128 columns of a block of 1920 columns: reading one out, and an array put together from fifteen. -/

@[expose] public section

namespace Cert.KernelIdeal.Quant
open Idealize.ShloMosaic Cert.KernelIdeal Cert.KernelIdeal.Gen
variable {F : FTy → Type} [FloatOps F]

/-- The index of lane `l` of group `g` in row `r`. -/
def gix (r : Fin 512) (g : Fin 15) (l : Fin 128) : S512x1920.Idx :=
  ix2 (n0 := 512) (n1 := 1920) r ⟨128 * g.val + l.val, by omega⟩

/-- Group `g` of a block of 1920 columns. -/
def blk {e : EltTy} (x0 : Vec F S512x1920 e) (g : Fin 15) : Vec F S512x128 e :=
  fun j => x0 (gix (j 0) g (j 1))

/-- The block of 1920 columns whose group `g` is `V g`. -/
def tiled {e : EltTy} (V : Fin 15 → Vec F S512x128 e) : Vec F S512x1920 e :=
  fun y => V ⟨(y 1).val / 128, by have : (y 1).val < 1920 := (y 1).isLt; omega⟩
    (ix2 (n0 := 512) (n1 := 128) (y 0) ⟨(y 1).val % 128, Nat.mod_lt _ (by decide)⟩)

/-- A load of group `g`, cast to its own shape, is the group. -/
theorem blk_eq (arg1 : Memref sig Kind.tc Space.vmem S512x1920 EltTy.bf16) (harg1 : arg1.IsWhole)
    (x0 : Vec F S512x1920 .bf16) (g : Fin 15) (off : Fin 2 → ℕ) (inb) (h0 : off 0 = 0)
    (h1 : off 1 = 128 * g.val) :
    shapeCast S512x128 (View.readAt (Elt F) arg1.view
      (Rect.unit (s := S512x1920) off S512x128.size inb).toLoadRect (harg1.unread x0) :
        Vec F S512x128 .bf16) shapeCasts_S512x128_S512x128 = blk x0 g := by
  refine (shapeCast_self (s := S512x128) _ _).trans ?_
  rw [View.readAt_eq_ld, harg1.read_unread]
  funext z
  refine (View.ld_unit_apply_of x0 off S512x128.size inb z (gix (z 0) g (z 1)) ?_).trans rfl
  intro a
  match a with
  | ⟨0, _⟩ => show (z 0).val = off 0 + (z 0).val; omega
  | ⟨1, _⟩ => show 128 * g.val + (z 1).val = off 1 + (z 1).val; omega

/-- A store of `V g` at group `g` agrees with the array put together from the groups. -/
theorem tiled_emb {e : EltTy} (V : Fin 15 → Vec F S512x128 e) (g : Fin 15) (off : Fin 2 → ℕ) (inb)
    (h0 : off 0 = 0) (h1 : off 1 = 128 * g.val) (z : S512x128.Idx) :
    V g z = tiled V ((Rect.unit (s := S512x1920) off S512x128.size inb).emb z) := by
  have hz : (z 1).val < 128 := (z 1).isLt
  have e0 := ValueKit.rect_emb_unit_val (s := S512x1920) off S512x128.size inb z 0
  have e1 := ValueKit.rect_emb_unit_val (s := S512x1920) off S512x128.size inb z 1
  unfold tiled
  generalize ((Rect.unit (s := S512x1920) off S512x128.size inb).emb z) = y at e0 e1 ⊢
  have a0 : (y 0).val = (z 0).val := by rw [e0, h0, Nat.zero_add]
  have a1 : (y 1).val = 128 * g.val + (z 1).val := by rw [e1, h1]
  have hg : (⟨(y 1).val / 128, by have : (y 1).val < 1920 := (y 1).isLt; omega⟩ : Fin 15) = g :=
    Fin.ext (by show (y 1).val / 128 = g.val; omega)
  rw [hg]
  congr 1
  refine (eq_ix2 (n0 := 512) (n1 := 128) z).trans ?_
  congr 1
  · exact Fin.ext a0.symm
  · exact Fin.ext (by show (z 1).val = (y 1).val % 128; omega)

/-- One more store agreeing with the array. -/
theorem piecesOf_cons {s : Shape} {e : EltTy} {G : Vec F s e} {r : Rect s}
    {w : r.shape.Idx → Elt F e} {L : List (View.Piece (Elt F) s e)}
    (h : ∀ x : r.shape.Idx, w x = G (r.emb x)) (hL : View.PiecesOf G L) :
    View.PiecesOf G (⟨r, w⟩ :: L) := ⟨h, hL⟩

/-- The store of the codes of group `g`. -/
theorem codes_tile (arg1 : Memref sig Kind.tc Space.vmem S512x1920 EltTy.bf16) (harg1 : arg1.IsWhole)
    (x0 : Vec F S512x1920 .bf16) (g : Fin 15) (off : Fin 2 → ℕ) (inb) (inb') (h0 : off 0 = 0)
    (h1 : off 1 = 128 * g.val) (z : S512x128.Idx) :
    codesV (shapeCast S512x128 (View.readAt (Elt F) arg1.view
      (Rect.unit (s := S512x1920) off S512x128.size inb).toLoadRect (harg1.unread x0) :
        Vec F S512x128 .bf16) shapeCasts_S512x128_S512x128) z
      = (tiled (fun g => codesV (blk x0 g)) : Vec F S512x1920 .fp8e4m3)
          ((Rect.unit (s := S512x1920) off S512x128.size inb').emb z) := by
  rw [blk_eq arg1 harg1 x0 g off inb h0 h1]
  exact tiled_emb (e := .fp8e4m3) (fun g => codesV (blk x0 g)) g off inb' h0 h1 z

/-- The store of the dequantised values of group `g`. -/
theorem deq_tile (arg1 : Memref sig Kind.tc Space.vmem S512x1920 EltTy.bf16) (harg1 : arg1.IsWhole)
    (x0 : Vec F S512x1920 .bf16) (g : Fin 15) (off : Fin 2 → ℕ) (inb) (inb') (h0 : off 0 = 0)
    (h1 : off 1 = 128 * g.val) (z : S512x128.Idx) :
    shapeCast S512x128 (deqV (shapeCast S512x128 (View.readAt (Elt F) arg1.view
      (Rect.unit (s := S512x1920) off S512x128.size inb).toLoadRect (harg1.unread x0) :
        Vec F S512x128 .bf16) shapeCasts_S512x128_S512x128)) shapeCasts_S512x128_S512x128 z
      = (tiled (fun g => deqV (blk x0 g)) : Vec F S512x1920 .bf16)
          ((Rect.unit (s := S512x1920) off S512x128.size inb').emb z) := by
  rw [shapeCast_self, blk_eq arg1 harg1 x0 g off inb h0 h1]
  exact tiled_emb (e := .bf16) (fun g => deqV (blk x0 g)) g off inb' h0 h1 z

/-- One step of collecting the scales: lane `g` (the constant `w`) takes the scale of its group. -/
noncomputable def pick (w : BitVec 16) (x acc : FVec F S512x128 .bf16) : FVec F S512x128 .bf16 :=
  select (cmpf .oeq (sitofp (F := F) .bf16 (iota .tc S512x128 32 [1] iota_S512x128_d1_w32)) (cst w))
    (scaleV x) acc

/-- The scales of the fifteen groups, one to a lane. -/
noncomputable def scalesV (x : Fin 15 → FVec F S512x128 .bf16) : FVec F S512x15 .f32 :=
  extractStridedSlice S512x15 ![0, 0] (extf .f32
    (pick 0x4160#16 (x 14) <| pick 0x4150#16 (x 13) <| pick 0x4140#16 (x 12) <|
     pick 0x4130#16 (x 11) <| pick 0x4120#16 (x 10) <| pick 0x4110#16 (x 9) <|
     pick 0x4100#16 (x 8) <| pick 0x40E0#16 (x 7) <| pick 0x40C0#16 (x 6) <|
     pick 0x40A0#16 (x 5) <| pick 0x4080#16 (x 4) <| pick 0x4040#16 (x 3) <|
     pick 0x4000#16 (x 2) <| pick 0x3F80#16 (x 1) <| pick 0x0000#16 (x 0) (cst 0x0000#16))
    bitsLt_bf16_f32) slices_S512x128_o0_0_S512x15

end Cert.KernelIdeal.Quant
-- ==== Proof.Consts.lean ====
module
public import Idealize.ShloMosaic.PureOps.Ideal

/-! The float constants of the programs, as the extended reals their patterns denote. -/

@[expose] public section

namespace Cert.Consts
open Idealize.ShloMosaic

theorem b0480 : Ideal.ofBits .bf16 0x0480#16 = (((2:ℝ)^(-118:ℤ) : ℝ) : EReal) := by
  simp [Ideal.ofBits, Ideal.ieee, -EReal.coe_mul, -EReal.coe_pow]; norm_num
theorem b7E80 : Ideal.ofBits .bf16 0x7E80#16 = (((2:ℝ)^(126:ℤ) : ℝ) : EReal) := by
  simp [Ideal.ofBits, Ideal.ieee, -EReal.coe_mul, -EReal.coe_pow]; norm_num
theorem b0500 : Ideal.ofBits .bf16 0x0500#16 = (((2:ℝ)^(-117:ℤ) : ℝ) : EReal) := by
  simp [Ideal.ofBits, Ideal.ieee, -EReal.coe_mul, -EReal.coe_pow]; norm_num
theorem b5F80 : Ideal.ofBits .bf16 0x5F80#16 = (((2:ℝ)^(64:ℤ) : ℝ) : EReal) := by
  simp [Ideal.ofBits, Ideal.ieee, -EReal.coe_mul, -EReal.coe_pow]; norm_num
theorem b4F80 : Ideal.ofBits .bf16 0x4F80#16 = (((2:ℝ)^(32:ℤ) : ℝ) : EReal) := by
  simp [Ideal.ofBits, Ideal.ieee, -EReal.coe_mul, -EReal.coe_pow]; norm_num
theorem b4780 : Ideal.ofBits .bf16 0x4780#16 = (((2:ℝ)^(16:ℤ) : ℝ) : EReal) := by
  simp [Ideal.ofBits, Ideal.ieee, -EReal.coe_mul, -EReal.coe_pow]; norm_num
theorem b4380 : Ideal.ofBits .bf16 0x4380#16 = (((2:ℝ)^(8:ℤ) : ℝ) : EReal) := by
  simp [Ideal.ofBits, Ideal.ieee, -EReal.coe_mul, -EReal.coe_pow]; norm_num
theorem b4180 : Ideal.ofBits .bf16 0x4180#16 = (((2:ℝ)^(4:ℤ) : ℝ) : EReal) := by
  simp [Ideal.ofBits, Ideal.ieee, -EReal.coe_mul, -EReal.coe_pow]; norm_num
theorem b4080 : Ideal.ofBits .bf16 0x4080#16 = (((2:ℝ)^(2:ℤ) : ℝ) : EReal) := by
  simp [Ideal.ofBits, Ideal.ieee, -EReal.coe_mul, -EReal.coe_pow]; norm_num
theorem b4000 : Ideal.ofBits .bf16 0x4000#16 = (((2:ℝ)^(1:ℤ) : ℝ) : EReal) := by
  simp [Ideal.ofBits, Ideal.ieee, -EReal.coe_mul, -EReal.coe_pow]; norm_num
theorem b1F80 : Ideal.ofBits .bf16 0x1F80#16 = (((2:ℝ)^(-64:ℤ) : ℝ) : EReal) := by
  simp [Ideal.ofBits, Ideal.ieee, -EReal.coe_mul, -EReal.coe_pow]; norm_num
theorem b2F80 : Ideal.ofBits .bf16 0x2F80#16 = (((2:ℝ)^(-32:ℤ) : ℝ) : EReal) := by
  simp [Ideal.ofBits, Ideal.ieee, -EReal.coe_mul, -EReal.coe_pow]; norm_num
theorem b3780 : Ideal.ofBits .bf16 0x3780#16 = (((2:ℝ)^(-16:ℤ) : ℝ) : EReal) := by
  simp [Ideal.ofBits, Ideal.ieee, -EReal.coe_mul, -EReal.coe_pow]; norm_num
theorem b3B80 : Ideal.ofBits .bf16 0x3B80#16 = (((2:ℝ)^(-8:ℤ) : ℝ) : EReal) := by
  simp [Ideal.ofBits, Ideal.ieee, -EReal.coe_mul, -EReal.coe_pow]; norm_num
theorem b3D80 : Ideal.ofBits .bf16 0x3D80#16 = (((2:ℝ)^(-4:ℤ) : ℝ) : EReal) := by
  simp [Ideal.ofBits, Ideal.ieee, -EReal.coe_mul, -EReal.coe_pow]; norm_num
theorem b3E80 : Ideal.ofBits .bf16 0x3E80#16 = (((2:ℝ)^(-2:ℤ) : ℝ) : EReal) := by
  simp [Ideal.ofBits, Ideal.ieee, -EReal.coe_mul, -EReal.coe_pow]; norm_num
theorem b3F00 : Ideal.ofBits .bf16 0x3F00#16 = (((2:ℝ)^(-1:ℤ) : ℝ) : EReal) := by
  simp [Ideal.ofBits, Ideal.ieee, -EReal.coe_mul, -EReal.coe_pow]; norm_num
theorem b3F60 : Ideal.ofBits .bf16 0x3F60#16 = ((7/8 : ℝ) : EReal) := by
  simp [Ideal.ofBits, Ideal.ieee, -EReal.coe_mul, -EReal.coe_pow]; norm_num
theorem b3F80 : Ideal.ofBits .bf16 0x3F80#16 = ((1 : ℝ) : EReal) := by
  simp [Ideal.ofBits, Ideal.ieee, -EReal.coe_mul, -EReal.coe_pow]; norm_num
theorem b43E0 : Ideal.ofBits .bf16 0x43E0#16 = ((448 : ℝ) : EReal) := by
  simp [Ideal.ofBits, Ideal.ieee, -EReal.coe_mul, -EReal.coe_pow]; norm_num
theorem bC3E0 : Ideal.ofBits .bf16 0xC3E0#16 = ((-448 : ℝ) : EReal) := by
  simp [Ideal.ofBits, Ideal.ieee, -EReal.coe_mul, -EReal.coe_pow]; norm_num
theorem f43E0 : Ideal.ofBits .f32 0x43E00000#32 = ((448 : ℝ) : EReal) := by
  simp [Ideal.ofBits, Ideal.ieee, -EReal.coe_mul, -EReal.coe_pow]; norm_num
theorem fC3E0 : Ideal.ofBits .f32 0xC3E00000#32 = ((-448 : ℝ) : EReal) := by
  simp [Ideal.ofBits, Ideal.ieee, -EReal.coe_mul, -EReal.coe_pow]; norm_num
theorem f4000 : Ideal.ofBits .f32 0x40000000#32 = ((2 : ℝ) : EReal) := by
  simp [Ideal.ofBits, Ideal.ieee, -EReal.coe_mul, -EReal.coe_pow]; norm_num
theorem f3F80 : Ideal.ofBits .f32 0x3F800000#32 = ((1 : ℝ) : EReal) := by
  simp [Ideal.ofBits, Ideal.ieee, -EReal.coe_mul, -EReal.coe_pow]; norm_num
theorem f0000 : Ideal.ofBits .f32 0x00000000#32 = ((0 : ℝ) : EReal) := by
  simp [Ideal.ofBits, Ideal.ieee, -EReal.coe_mul, -EReal.coe_pow]
theorem f04E0 : Ideal.ofBits .f32 0x04E00000#32 = (((7/8:ℝ) * (2:ℝ)^(-117:ℤ) : ℝ) : EReal) := by
  simp [Ideal.ofBits, Ideal.ieee, -EReal.coe_mul, -EReal.coe_pow]; norm_num
theorem f7F60 : Ideal.ofBits .f32 0x7F600000#32 = (((7/8:ℝ) * (2:ℝ)^(128:ℤ) : ℝ) : EReal) := by
  simp [Ideal.ofBits, Ideal.ieee, -EReal.coe_mul, -EReal.coe_pow]; norm_num
theorem fFF80 : Ideal.ofBits .f32 0xFF800000#32 = ⊥ := by
  simp [Ideal.ofBits, Ideal.ieee]
theorem lane0 : Ideal.ofBits .bf16 0x0000#16 = ((0 : ℝ) : EReal) := by
  simp [Ideal.ofBits, Ideal.ieee, -EReal.coe_mul, -EReal.coe_pow]
theorem lane1 : Ideal.ofBits .bf16 0x3F80#16 = ((1 : ℝ) : EReal) := by
  simp [Ideal.ofBits, Ideal.ieee, -EReal.coe_mul, -EReal.coe_pow]; norm_num
theorem lane2 : Ideal.ofBits .bf16 0x4000#16 = ((2 : ℝ) : EReal) := by
  simp [Ideal.ofBits, Ideal.ieee, -EReal.coe_mul, -EReal.coe_pow]; norm_num
theorem lane3 : Ideal.ofBits .bf16 0x4040#16 = ((3 : ℝ) : EReal) := by
  simp [Ideal.ofBits, Ideal.ieee, -EReal.coe_mul, -EReal.coe_pow]; norm_num
theorem lane4 : Ideal.ofBits .bf16 0x4080#16 = ((4 : ℝ) : EReal) := by
  simp [Ideal.ofBits, Ideal.ieee, -EReal.coe_mul, -EReal.coe_pow]; norm_num
theorem lane5 : Ideal.ofBits .bf16 0x40A0#16 = ((5 : ℝ) : EReal) := by
  simp [Ideal.ofBits, Ideal.ieee, -EReal.coe_mul, -EReal.coe_pow]; norm_num
theorem lane6 : Ideal.ofBits .bf16 0x40C0#16 = ((6 : ℝ) : EReal) := by
  simp [Ideal.ofBits, Ideal.ieee, -EReal.coe_mul, -EReal.coe_pow]; norm_num
theorem lane7 : Ideal.ofBits .bf16 0x40E0#16 = ((7 : ℝ) : EReal) := by
  simp [Ideal.ofBits, Ideal.ieee, -EReal.coe_mul, -EReal.coe_pow]; norm_num
theorem lane8 : Ideal.ofBits .bf16 0x4100#16 = ((8 : ℝ) : EReal) := by
  simp [Ideal.ofBits, Ideal.ieee, -EReal.coe_mul, -EReal.coe_pow]; norm_num
theorem lane9 : Ideal.ofBits .bf16 0x4110#16 = ((9 : ℝ) : EReal) := by
  simp [Ideal.ofBits, Ideal.ieee, -EReal.coe_mul, -EReal.coe_pow]; norm_num
theorem lane10 : Ideal.ofBits .bf16 0x4120#16 = ((10 : ℝ) : EReal) := by
  simp [Ideal.ofBits, Ideal.ieee, -EReal.coe_mul, -EReal.coe_pow]; norm_num
theorem lane11 : Ideal.ofBits .bf16 0x4130#16 = ((11 : ℝ) : EReal) := by
  simp [Ideal.ofBits, Ideal.ieee, -EReal.coe_mul, -EReal.coe_pow]; norm_num
theorem lane12 : Ideal.ofBits .bf16 0x4140#16 = ((12 : ℝ) : EReal) := by
  simp [Ideal.ofBits, Ideal.ieee, -EReal.coe_mul, -EReal.coe_pow]; norm_num
theorem lane13 : Ideal.ofBits .bf16 0x4150#16 = ((13 : ℝ) : EReal) := by
  simp [Ideal.ofBits, Ideal.ieee, -EReal.coe_mul, -EReal.coe_pow]; norm_num
theorem lane14 : Ideal.ofBits .bf16 0x4160#16 = ((14 : ℝ) : EReal) := by
  simp [Ideal.ofBits, Ideal.ieee, -EReal.coe_mul, -EReal.coe_pow]; norm_num

end Cert.Consts
-- ==== Proof.Ladder.lean ====
module
public import proofs.«01_k».proof.Proof.Consts
public import Idealize.ShloMosaic.PureOps.Ideal.Laws

/-! The quantiser's scale as numbers: the kernel's ladder of comparisons against the reference's power of two
of a rounded-down logarithm. -/

@[expose] public section

namespace Cert.Ladder
open Idealize.ShloMosaic

/-- A power of two as an extended real. -/
noncomputable def p2 (k : ℤ) : EReal := (((2:ℝ)^k : ℝ) : EReal)

/-- Division of reals at a divisor other than zero. -/
theorem div_coe {x y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

/-- One rung of the ladder: whether `7/8` of the power of two times `2^b` is still at most `a`. -/
noncomputable def rung (b : ℤ) (a : EReal) (s : EReal × EReal) : EReal × EReal :=
  (if s.1 * p2 b * ((7/8 : ℝ) : EReal) ≤ a then s.1 * p2 b else s.1,
   if s.1 * p2 b * ((7/8 : ℝ) : EReal) ≤ a then s.2 * p2 (-b) else s.2)

/-- The nine rungs. -/
noncomputable def climb (a : EReal) : EReal × EReal :=
  rung 1 a (rung 2 a (rung 4 a (rung 8 a (rung 16 a (rung 32 a (rung 64 a (rung 64 a (rung 64 a
    (p2 (-118), p2 126)))))))))

/-- The kernel's scale of a group whose largest magnitude is `a`. -/
noncomputable def scale (a : EReal) : EReal :=
  if p2 (-117) ≤ (climb a).1 then (climb a).1 * p2 (-8) else 1

/-- The kernel's inverse of the scale. -/
noncomputable def inv (a : EReal) : EReal :=
  if p2 (-117) ≤ (climb a).1 then (climb a).2 else 1

/-- What the ladder holds between rungs: a power of two and 256 over it, the power at most `8/7 a` unless it is still
the first, and `a` below what the rungs left can reach. -/
def Inv (R : ℤ) (a : ℝ) (s : EReal × EReal) : Prop :=
  ∃ j : ℤ, s = (p2 j, p2 (8 - j)) ∧ -118 ≤ j ∧ (j = -118 ∨ 7/8 * (2:ℝ)^j ≤ a) ∧
    a < 7/8 * (2:ℝ)^(j + R + 1)

theorem p2_mul (j k : ℤ) : p2 j * p2 k = p2 (j + k) := by
  unfold p2
  rw [← EReal.coe_mul, zpow_add₀ two_ne_zero]

theorem rung_inv {b R : ℤ} {a : ℝ} {s : EReal × EReal} (hb : 0 ≤ b) (hR : b ≤ R + 1)
    (h : Inv (R + b) a s) : Inv R a (rung b a s) := by
  obtain ⟨j, rfl, h1, h2, h3⟩ := h
  have key : (p2 j * p2 b * ((7/8 : ℝ) : EReal) ≤ (a : EReal)) ↔ 7/8 * (2:ℝ)^(j + b) ≤ a := by
    rw [p2_mul, p2, ← EReal.coe_mul, EReal.coe_le_coe_iff, mul_comm]
  unfold rung
  by_cases hc : 7/8 * (2:ℝ)^(j + b) ≤ a
  · refine ⟨j + b, ?_, by omega, .inr hc, ?_⟩
    · rw [if_pos (key.2 hc), if_pos (key.2 hc), p2_mul, p2_mul]
      congr 2; omega
    · rwa [show j + b + R + 1 = j + (R + b) + 1 by omega]
  · refine ⟨j, ?_, h1, h2, ?_⟩
    · rw [if_neg (fun h => hc (key.1 h)), if_neg (fun h => hc (key.1 h))]
    · refine (not_le.1 hc).trans_le ?_
      have : (2:ℝ)^(j + b) ≤ (2:ℝ)^(j + R + 1) := zpow_le_zpow_right₀ (by norm_num) (by omega)
      linarith

theorem climb_inv {a : ℝ} (ha : a < 7/8 * (2:ℝ)^(128:ℤ)) : Inv 0 a (climb a) := by
  have h0 : Inv 255 a (p2 (-118), p2 126) := by
    refine ⟨-118, by norm_num, le_refl _, .inl rfl, ha.trans_le ?_⟩
    have : (2:ℝ)^(128:ℤ) ≤ (2:ℝ)^(-118 + 255 + 1 : ℤ) := zpow_le_zpow_right₀ (by norm_num) (by omega)
    linarith
  exact rung_inv (R := 0) (b := 1) (by omega) (by omega) <| rung_inv (R := 1) (b := 2) (by omega) (by omega) <|
    rung_inv (R := 3) (b := 4) (by omega) (by omega) <| rung_inv (R := 7) (b := 8) (by omega) (by omega) <|
    rung_inv (R := 15) (b := 16) (by omega) (by omega) <| rung_inv (R := 31) (b := 32) (by omega) (by omega) <|
    rung_inv (R := 63) (b := 64) (by omega) (by omega) <| rung_inv (R := 127) (b := 64) (by omega) (by omega) <|
    rung_inv (R := 191) (b := 64) (by omega) (by omega) h0

/-- The reference's exponent of a group whose largest magnitude is `a`. -/
noncomputable def expo (a : EReal) : EReal :=
  if a = 0 then 0 else
    Ideal.liftRound Int.floor (Ideal.div (Ideal.log (Ideal.div a ((448:ℝ):EReal))) (Ideal.log ((2:ℝ):EReal))) + 1

/-- At a magnitude of zero the kernel's scale and its inverse are one. -/
theorem zero_case : scale 0 = 1 ∧ inv 0 = 1 := by
  obtain ⟨j, hs, h1, h2, h3⟩ := climb_inv (a := 0) (by positivity)
  have hj : j = -118 := by
    rcases h2 with h | h
    · exact h
    · have : (0:ℝ) < 2^j := by positivity
      linarith
  subst hj
  have hs : climb 0 = _ := hs
  have : ¬ (p2 (-117) ≤ p2 (-118)) := by
    unfold p2; rw [EReal.coe_le_coe_iff, not_le]
    exact zpow_lt_zpow_right₀ (by norm_num) (by norm_num)
  unfold scale inv
  rw [hs, if_neg this, if_neg this]
  exact ⟨rfl, rfl⟩

/-- At a magnitude in range the kernel's scale is the power of two of the reference's exponent. -/
theorem range_case {a : ℝ} (hl : 7/8 * (2:ℝ)^(-117:ℤ) ≤ a) (ha : a < 7/8 * (2:ℝ)^(128:ℤ)) :
    ∃ j : ℤ, scale a = p2 j ∧ inv a = p2 (-j) ∧ expo a = ((j : ℝ) : EReal) := by
  obtain ⟨j, hs, h1, h2, h3⟩ := climb_inv ha
  have hj : -117 ≤ j := by
    by_contra hc
    have : (2:ℝ)^(j + 0 + 1) ≤ (2:ℝ)^(-117:ℤ) := zpow_le_zpow_right₀ (by norm_num) (by omega)
    have := mul_le_mul_of_nonneg_left this (show (0:ℝ) ≤ 7/8 by norm_num)
    exact lt_irrefl _ (h3.trans_le (this.trans hl))
  have hlow : 7/8 * (2:ℝ)^j ≤ a := by
    rcases h2 with h | h
    · omega
    · exact h
  have hp : p2 (-117) ≤ p2 j := by
    unfold p2; rw [EReal.coe_le_coe_iff]
    exact zpow_le_zpow_right₀ (by norm_num) hj
  have hpos : 0 < a := lt_of_lt_of_le (by positivity) hlow
  refine ⟨j - 8, ?_, ?_, ?_⟩
  · unfold scale; rw [hs, if_pos hp, p2_mul]; rfl
  · unfold inv; rw [hs, if_pos hp]; show p2 (8 - j) = _; congr 1; omega
  · have hne : ((a : ℝ) : EReal) ≠ 0 := by exact_mod_cast hpos.ne'
    have hq : 0 < a / 448 := by positivity
    have h2 : 0 < Real.log 2 := Real.log_pos (by norm_num)
    have hlog : Ideal.div (Ideal.log (Ideal.div (a:EReal) ((448:ℝ):EReal))) (Ideal.log ((2:ℝ):EReal))
        = ((Real.log (a / 448) / Real.log 2 : ℝ) : EReal) := by
      have e1 : Ideal.div (a:EReal) ((448:ℝ):EReal) = ((a/448 : ℝ) : EReal) := by
        rw [div_coe (by norm_num)]
      rw [e1, Ideal.log_coe, Ideal.log_coe, if_neg (not_le.2 hq), if_neg (by norm_num), div_coe h2.ne']
    have hfl : ⌊Real.log (a / 448) / Real.log 2⌋ = j - 9 := by
      rw [Int.floor_eq_iff]
      have e9 : (2:ℝ)^(j - 9) = 2^j / 512 := by rw [zpow_sub₀ two_ne_zero]; norm_num
      have e8 : (2:ℝ)^(j + 0 + 1) = 2 ^ j * 2 := by rw [zpow_add₀ two_ne_zero]; norm_num
      constructor
      · rw [le_div_iff₀ h2, ← Real.log_zpow]
        refine Real.log_le_log (by positivity) ?_
        rw [e9]; linarith
      · rw [div_lt_iff₀ h2, show ((j - 9 : ℤ) : ℝ) + 1 = ((j - 8 : ℤ) : ℝ) by push_cast; ring,
          ← Real.log_zpow]
        refine Real.log_lt_log hq ?_
        rw [show j - 8 = (j - 9) + 1 by omega, zpow_add₀ two_ne_zero, e9]
        rw [e8] at h3; norm_num; linarith
    unfold expo
    rw [if_neg hne, hlog, Ideal.liftRound_coe, hfl, ← EReal.coe_one, ← EReal.coe_add]
    congr 1; push_cast; ring

end Cert.Ladder
-- ==== Proof.QuantAt.lean ====
module
public import proofs.«01_k».proof.Proof.Tiles
public import proofs.«01_k».proof.Proof.Ladder
public import Idealize.ShloMosaic.Lib.Pointwise

/-! The quantised group at an index, as numbers. -/

@[expose] public section

namespace Cert.KernelIdeal.Quant
open Idealize.ShloMosaic Cert.KernelIdeal Cert.KernelIdeal.Gen

/-- The largest magnitude of 128 numbers. -/
noncomputable def most (f : Fin 128 → EReal) : EReal :=
  Finset.fold max ⊥ (fun k => max (f k) (-f k)) Finset.univ

/-- The row maximum of a group at an index. -/
theorem amaxV_apply (x : FVec Ideal S512x128 .bf16) (r : Fin 512) (l : Fin 128) :
    amaxV x (ix2 r l) = most (fun k => x (ix2 r k)) := by
  unfold amaxV
  pointwise
  rw [Consts.fFF80]
  rfl

/-- One rung of the ladder at an index. -/
theorem step_apply {b d : BitVec 16} {k : ℤ} (hb : Ideal.ofBits .bf16 b = Ladder.p2 k)
    (hd : Ideal.ofBits .bf16 d = Ladder.p2 (-k)) (a : FVec Ideal S512x128 .bf16)
    (s : FVec Ideal S512x128 .bf16 × FVec Ideal S512x128 .bf16) (j : S512x128.Idx) :
    ((step b d a s).1 j, (step b d a s).2 j) = Ladder.rung k (a j) (s.1 j, s.2 j) := by
  obtain ⟨p, q⟩ := s
  have h1 : (step b d a (p,q)).1 j = (Ladder.rung k (a j) (p j, q j)).1 := by
    unfold step stepP stepI reachV cst
    pointwise
    rw [hb, Consts.b3F60]; rfl
  have h2 : (step b d a (p,q)).2 j = (Ladder.rung k (a j) (p j, q j)).2 := by
    unfold step stepP stepI reachV cst
    pointwise
    rw [hb, hd, Consts.b3F60]; rfl
  exact Prod.ext h1 h2

/-- The ladder at an index. -/
theorem ladder_apply (a : FVec Ideal S512x128 .bf16) (j : S512x128.Idx) :
    ((ladder a).1 j, (ladder a).2 j) = Ladder.climb (a j) := by
  unfold ladder Ladder.climb
  rw [step_apply Consts.b4000 Consts.b3F00, step_apply Consts.b4080 Consts.b3E80,
    step_apply Consts.b4180 Consts.b3D80, step_apply Consts.b4380 Consts.b3B80,
    step_apply Consts.b4780 Consts.b3780, step_apply Consts.b4F80 Consts.b2F80,
    step_apply Consts.b5F80 Consts.b1F80, step_apply Consts.b5F80 Consts.b1F80,
    step_apply Consts.b5F80 Consts.b1F80]
  show Ladder.rung 1 _ (Ladder.rung 2 _ (Ladder.rung 4 _ (Ladder.rung 8 _ (Ladder.rung 16 _ (Ladder.rung 32 _
    (Ladder.rung 64 _ (Ladder.rung 64 _ (Ladder.rung 64 _
      (Ideal.ofBits .bf16 0x0480#16, Ideal.ofBits .bf16 0x7E80#16))))))))) = _
  rw [Consts.b0480, Consts.b7E80]
  rfl

theorem fst_of {α β : Type} {a : α} {b : β} {p : α × β} (h : (a, b) = p) : a = p.1 := by subst h; rfl

theorem snd_of {α β : Type} {a : α} {b : β} {p : α × β} (h : (a, b) = p) : b = p.2 := by subst h; rfl

theorem ladder_fst (a : FVec Ideal S512x128 .bf16) (j : S512x128.Idx) :
    (ladder a).1 j = (Ladder.climb (a j)).1 := fst_of (ladder_apply a j)

theorem ladder_snd (a : FVec Ideal S512x128 .bf16) (j : S512x128.Idx) :
    (ladder a).2 j = (Ladder.climb (a j)).2 := snd_of (ladder_apply a j)

/-- The scale of a group at an index. -/
theorem scaleV_apply (x : FVec Ideal S512x128 .bf16) (r : Fin 512) (l : Fin 128) :
    scaleV x (ix2 r l) = Ladder.scale (most (fun k => x (ix2 r k))) := by
  unfold scaleV normalV cst
  pointwise
  rw [ladder_fst, amaxV_apply, Consts.b0500, Consts.b3B80]
  rfl

/-- The quantised number: the number over its scale, kept within 448 of zero. -/
noncomputable def code (a x : EReal) : EReal :=
  min ((448:ℝ):EReal) (max ((-448:ℝ):EReal) (x * Ladder.inv a))

/-- The codes of a group at an index. -/
theorem codesV_apply (x : FVec Ideal S512x128 .bf16) (r : Fin 512) (l : Fin 128) :
    codesV x (ix2 r l) = code (most (fun k => x (ix2 r k))) (x (ix2 r l)) := by
  unfold codesV invV normalV cst
  pointwise
  rw [ladder_fst, ladder_snd, amaxV_apply, Consts.b0500, Consts.b43E0, Consts.bC3E0]
  rfl

/-- The dequantised values of a group at an index. -/
theorem deqV_apply (x : FVec Ideal S512x128 .bf16) (r : Fin 512) (l : Fin 128) :
    deqV x (ix2 r l) = code (most (fun k => x (ix2 r k))) (x (ix2 r l)) *
      Ladder.scale (most (fun k => x (ix2 r k))) := by
  rw [← codesV_apply, ← scaleV_apply]
  rfl

/-- One lane of the collected scales: the group's scale at its lane, what was there elsewhere. -/
theorem pick_apply {w : BitVec 16} {g : ℕ} (hw : Ideal.ofBits .bf16 w = ((g : ℝ) : EReal))
    (x acc : FVec Ideal S512x128 .bf16) (r : Fin 512) (l : Fin 128) :
    pick w x acc (ix2 r l) = if l.val = g then Ladder.scale (most (fun k => x (ix2 r k))) else acc (ix2 r l) := by
  rw [← scaleV_apply x r l]
  unfold pick cst
  pointwise
  have e : (FloatOps.sitofp (F := Ideal) FTy.bf16 (BitVec.ofNat 32 l.val) = Ideal.ofBits FTy.bf16 w) ↔ l.val = g := by
    rw [hw]
    show (((BitVec.ofNat 32 l.val).toInt : ℝ) : EReal) = _ ↔ _
    have : (BitVec.ofNat 32 l.val).toInt = l.val := by
      rw [BitVec.toInt_eq_toNat_of_lt] <;> rw [BitVec.toNat_ofNat] <;> omega
    rw [this, EReal.coe_eq_coe_iff]
    norm_cast
  simp only [e]

/-- The scales of the fifteen groups at an index. -/
theorem scalesV_apply (x : Fin 15 → FVec Ideal S512x128 .bf16) (r : Fin 512) (g : Fin 15) :
    scalesV x (ix2 r g) = Ladder.scale (most (fun k => x g (ix2 r k))) := by
  have h : scalesV x (ix2 r g) = (pick 0x4160#16 (x 14) <| pick 0x4150#16 (x 13) <| pick 0x4140#16 (x 12) <|
     pick 0x4130#16 (x 11) <| pick 0x4120#16 (x 10) <| pick 0x4110#16 (x 9) <|
     pick 0x4100#16 (x 8) <| pick 0x40E0#16 (x 7) <| pick 0x40C0#16 (x 6) <|
     pick 0x40A0#16 (x 5) <| pick 0x4080#16 (x 4) <| pick 0x4040#16 (x 3) <|
     pick 0x4000#16 (x 2) <| pick 0x3F80#16 (x 1) <| pick 0x0000#16 (x 0) (cst 0x0000#16))
       (ix2 r (Fin.castLE (by decide : 15 ≤ 128) g)) := by
    unfold scalesV
    pointwise
    rfl
  rw [h]
  rw [pick_apply (g := 14) Consts.lane14, pick_apply (g := 13) Consts.lane13, pick_apply (g := 12) Consts.lane12,
    pick_apply (g := 11) Consts.lane11, pick_apply (g := 10) Consts.lane10, pick_apply (g := 9) Consts.lane9,
    pick_apply (g := 8) Consts.lane8, pick_apply (g := 7) Consts.lane7, pick_apply (g := 6) Consts.lane6,
    pick_apply (g := 5) Consts.lane5, pick_apply (g := 4) Consts.lane4, pick_apply (g := 3) Consts.lane3,
    pick_apply (g := 2) Consts.lane2, pick_apply (g := 1) (by rw [Consts.lane1]; norm_num),
    pick_apply (g := 0) (by rw [Consts.lane0]; norm_num)]
  fin_cases g <;> rfl

end Cert.KernelIdeal.Quant
-- ==== Proof.RefAt.lean ====
module
public import proofs.«01_k».proof.Proof.RefTerm
public import proofs.«01_k».proof.Proof.QuantAt
public import Idealize.ShloMosaic.Lib.Pointwise

/-! The reference's terms at an index, as numbers. -/

@[expose] public section

namespace Cert.ReferenceIdeal.Term
open Idealize.ShloMosaic Idealize.ShloMosaic.TcCoe Cert.ReferenceIdeal Cert.ReferenceIdeal.Gen
open Cert.KernelIdeal.Quant (most)

/-- The numbers of one group. -/
def grp (x : FVec Ideal S2x2048x1920 .bf16) (i : Fin 2) (j : Fin 2048) (g : Fin 15) (k : Fin 128) : EReal :=
  x (ix3 (n0 := 2) (n1 := 2048) (n2 := 1920) i j ⟨128 * g.val + k.val, by omega⟩)

/-- A token's group at an index. -/
theorem groups_apply (x : FVec Ideal S2x2048x1920 .bf16) (i : Fin 2) (j : Fin 2048) (g : Fin 15) (k : Fin 128) :
    (groups x) (ix4 (n0 := 2) (n1 := 2048) (n2 := 15) (n3 := 128) i j g k) = grp x i j g k := by
  unfold groups grp
  refine (shapeCast_apply (s := S2x2048x1920) (t := S2x2048x15x128) _ _ _ (ix3 (n0 := 2) (n1 := 2048) (n2 := 1920) i j ⟨128 * g.val + k.val, by omega⟩) ?_).trans rfl
  rewrite [Shape.rowMajor_val_three, Shape.rowMajor_val_four]
  show (i.val * 2048 + j.val) * 1920 + (128 * g.val + k.val) = ((i.val * 2048 + j.val) * 15 + g.val) * 128 + k.val
  omega

/-- The largest magnitude of a family over the last axis. -/
theorem fold_apply (y : FVec Ideal S2x2048x15x128 .f32) (i : Fin 2) (j : Fin 2048) (g : Fin 15) :
    (Host.reduce FloatOps.maximumf (Host.absf y) (constant (F := Ideal) S_ .f32 0xFF800000#32)
      reducesTo_S2x2048x15x128_S2x2048x15_d3 h_S_ : FVec Ideal S2x2048x15 .f32) (ix3 (n0 := 2) (n1 := 2048) (n2 := 15) i j g)
      = most (fun k => y (ix4 (n0 := 2) (n1 := 2048) (n2 := 15) (n3 := 128) i j g k)) := by
  pointwise
  rw [Consts.fFF80]
  rfl

/-- The largest magnitude of a group at an index. -/
theorem largest_apply (x : FVec Ideal S2x2048x1920 .bf16) (i : Fin 2) (j : Fin 2048) (g : Fin 15) :
    (largest x) (ix3 (n0 := 2) (n1 := 2048) (n2 := 15) i j g) = most (grp x i j g) := by
  unfold largest
  refine (fold_apply (groups x) i j g).trans ?_
  exact congrArg most (funext fun k => groups_apply x i j g k)

/-- The exponent at an index, of the largest magnitudes. -/
theorem exponent_of (a : FVec Ideal S2x2048x15 .f32) (i : Fin 2) (j : Fin 2048) (g : Fin 15) :
    (select (cmpf .oeq a (every 0x00000000#32))
      (broadcastInDim S2x2048x15 ![] bcast_S_S2x2048x15 (id (constant S_ .f32 0x00000000#32)))
      (addf (Host.floor (Host.divf (Host.log (Host.divf a (every 0x43E00000#32))) (Host.log (every 0x40000000#32))))
        (every 0x3F800000#32)) : FVec Ideal S2x2048x15 .f32) (ix3 (n0 := 2) (n1 := 2048) (n2 := 15) i j g)
      = Ladder.expo (a (ix3 (n0 := 2) (n1 := 2048) (n2 := 15) i j g)) := by
  unfold every
  pointwise
  have h0 : id (constant (F := Ideal) S_ .f32 0x00000000#32) ix0 = (0 : EReal) := by
    refine Eq.trans (show _ = Ideal.ofBits .f32 0x00000000#32 from rfl) ?_
    rw [Consts.f0000]; rfl
  rw [h0, Consts.f43E0, Consts.f4000]
  rfl

/-- The exponent of a group at an index. -/
theorem exponent_apply (x : FVec Ideal S2x2048x1920 .bf16) (i : Fin 2) (j : Fin 2048) (g : Fin 15) :
    (exponent x) (ix3 (n0 := 2) (n1 := 2048) (n2 := 15) i j g) = Ladder.expo (most (grp x i j g)) := by
  rw [← largest_apply]
  exact exponent_of (largest x) i j g

/-- A power of two at an index. -/
theorem power_of (e : FVec Ideal S2x2048x15 .f32) (i : Fin 2) (j : Fin 2048) (g : Fin 15) :
    (Host.powf (every 0x40000000#32) e : FVec Ideal S2x2048x15 .f32) (ix3 (n0 := 2) (n1 := 2048) (n2 := 15) i j g)
      = Ideal.pow ((2:ℝ) : EReal) (e (ix3 (n0 := 2) (n1 := 2048) (n2 := 15) i j g)) := by
  unfold every
  pointwise
  rw [Consts.f4000]

/-- A negated exponent at an index. -/
theorem neg_of (e : FVec Ideal S2x2048x15 .f32) (i : Fin 2) (j : Fin 2048) (g : Fin 15) :
    (Host.negf e : FVec Ideal S2x2048x15 .f32) (ix3 (n0 := 2) (n1 := 2048) (n2 := 15) i j g)
      = @Neg.neg EReal _ (e (ix3 (n0 := 2) (n1 := 2048) (n2 := 15) i j g)) := rfl

/-- The scale of a group at an index. -/
theorem scales_apply (x : FVec Ideal S2x2048x1920 .bf16) (i : Fin 2) (j : Fin 2048) (g : Fin 15) :
    (scales x) (ix3 (n0 := 2) (n1 := 2048) (n2 := 15) i j g)
      = Ideal.pow ((2:ℝ) : EReal) (Ladder.expo (most (grp x i j g))) := by
  rw [← exponent_apply]
  exact power_of (exponent x) i j g

/-- The inverse scale of a group at an index. -/
theorem inverses_apply (x : FVec Ideal S2x2048x1920 .bf16) (i : Fin 2) (j : Fin 2048) (g : Fin 15) :
    (inverses x) (ix3 (n0 := 2) (n1 := 2048) (n2 := 15) i j g)
      = Ideal.pow ((2:ℝ) : EReal) (-(Ladder.expo (most (grp x i j g)))) := by
  rw [← exponent_apply, ← neg_of]
  exact power_of (Host.negf (exponent x)) i j g

/-- The clipped product at an index. -/
theorem clipped_of (y : FVec Ideal S2x2048x15x128 .f32) (v : FVec Ideal S2x2048x15 .f32)
    (i : Fin 2) (j : Fin 2048) (g : Fin 15) (k : Fin 128) :
    (minimumf (broadcastInDim S2x2048x15x128 ![] bcast_S_S2x2048x15x128 (id (constant S_ .f32 0x43E00000#32)))
      (maximumf (broadcastInDim S2x2048x15x128 ![] bcast_S_S2x2048x15x128 (id (constant S_ .f32 0xC3E00000#32)))
        (mulf y (broadcastInDim S2x2048x15x128 ![0, 1, 2, 3] bcast_S2x2048x15x1_S2x2048x15x128_0_1_2_3
          (broadcastInDim S2x2048x15x1 ![0, 1, 2] bcast_S2x2048x15_S2x2048x15x1_0_1_2 v)))) : FVec Ideal S2x2048x15x128 .f32)
      (ix4 (n0 := 2) (n1 := 2048) (n2 := 15) (n3 := 128) i j g k)
      = min ((448:ℝ):EReal) (max ((-448:ℝ):EReal)
          (@HMul.hMul EReal EReal EReal _ (y (ix4 (n0 := 2) (n1 := 2048) (n2 := 15) (n3 := 128) i j g k))
            (v (ix3 (n0 := 2) (n1 := 2048) (n2 := 15) i j g)))) := by
  pointwise
  rw [← Consts.f43E0, ← Consts.fC3E0]
  rfl

/-- The clipped token at an index. -/
theorem clipped_apply (x : FVec Ideal S2x2048x1920 .bf16) (i : Fin 2) (j : Fin 2048) (g : Fin 15) (k : Fin 128) :
    (clipped x) (ix4 (n0 := 2) (n1 := 2048) (n2 := 15) (n3 := 128) i j g k)
      = min ((448:ℝ):EReal) (max ((-448:ℝ):EReal)
          (grp x i j g k * Ideal.pow ((2:ℝ) : EReal) (-(Ladder.expo (most (grp x i j g)))))) := by
  rw [← groups_apply, ← inverses_apply]
  exact clipped_of (groups x) (inverses x) i j g k

/-- The clipped token at a row and a column. -/
theorem rows_apply (x : FVec Ideal S2x2048x1920 .bf16) (s : Fin 4096) (n : Fin 1920) :
    (rows x) (ix2 (n0 := 4096) (n1 := 1920) s n)
      = (clipped x) (ix4 (n0 := 2) (n1 := 2048) (n2 := 15) (n3 := 128) ⟨s.val / 2048, by omega⟩
          ⟨s.val % 2048, Nat.mod_lt _ (by decide)⟩ ⟨n.val / 128, by omega⟩ ⟨n.val % 128, Nat.mod_lt _ (by decide)⟩) := by
  unfold rows
  refine (shapeCast_apply (s := S2x2048x15x128) (t := S4096x1920) _ _ _ (ix4 (n0 := 2) (n1 := 2048) (n2 := 15) (n3 := 128) ⟨s.val / 2048, by omega⟩
          ⟨s.val % 2048, Nat.mod_lt _ (by decide)⟩ ⟨n.val / 128, by omega⟩ ⟨n.val % 128, Nat.mod_lt _ (by decide)⟩) ?_)
  rewrite [Shape.rowMajor_val_two, Shape.rowMajor_val_four]
  show ((s.val / 2048 * 2048 + s.val % 2048) * 15 + n.val / 128) * 128 + n.val % 128 = s.val * 1920 + n.val
  omega

/-- The scales, a row of fifteen for every token. -/
theorem scaleRows_apply (y : FVec Ideal S2x2048x15 .f32) (s : Fin 4096) (g : Fin 15) :
    (shapeCast S4096x15 y shapeCasts_S2x2048x15_S4096x15) (ix2 (n0 := 4096) (n1 := 15) s g)
      = y (ix3 (n0 := 2) (n1 := 2048) (n2 := 15) ⟨s.val / 2048, by omega⟩ ⟨s.val % 2048, Nat.mod_lt _ (by decide)⟩ g) := by
  refine (shapeCast_apply (s := S2x2048x15) (t := S4096x15) _ _ _ (ix3 (n0 := 2) (n1 := 2048) (n2 := 15) ⟨s.val / 2048, by omega⟩ ⟨s.val % 2048, Nat.mod_lt _ (by decide)⟩ g) ?_)
  rewrite [Shape.rowMajor_val_two, Shape.rowMajor_val_three]
  show (s.val / 2048 * 2048 + s.val % 2048) * 15 + g.val = s.val * 15 + g.val
  omega

end Cert.ReferenceIdeal.Term
-- ==== Proof.PreAt.lean ====
module
public import proofs.«01_k».proof.Pre_in_range
public import proofs.«01_k».proof.Proof.RefAt

/-! The precondition, read at one group: its largest magnitude is zero, or lies in the range of the normal scales. -/

@[expose] public section

namespace Cert.Pre_in_range
open Idealize.ShloMosaic Cert.KernelIdeal.Quant

/-- The side conditions of the precondition's operations. -/
theorem facts : Facts where
  bitsLt_bf16_f32 := Cert.ReferenceIdeal.Gen.bitsLt_bf16_f32
  shapeCasts_S2x2048x1920_S2x2048x15x128 := Cert.ReferenceIdeal.Gen.shapeCasts_S2x2048x1920_S2x2048x15x128
  reducesTo_S2x2048x15x128_S2x2048x15_d3 := Cert.ReferenceIdeal.Gen.reducesTo_S2x2048x15x128_S2x2048x15_d3
  h_S_ := Cert.ReferenceIdeal.Gen.h_S_
  bcast_S_S2x2048x15 := Cert.ReferenceIdeal.Gen.bcast_S_S2x2048x15

/-- The three comparisons of the precondition, of the largest magnitudes. -/
noncomputable def tests (a : FVec Ideal S2x2048x15 .f32) : IVec S2x2048x15 1 :=
  ori (cmpf .oeq a (Cert.ReferenceIdeal.Term.every 0x00000000#32))
    (andi (cmpf .oge a (Cert.ReferenceIdeal.Term.every 0x04E00000#32))
      (cmpf .olt a (Cert.ReferenceIdeal.Term.every 0x7F600000#32)))

/-- The precondition is those comparisons. -/
theorem fn_eq [Facts] (x : FVec Ideal S2x2048x1920 .bf16) (w : FVec Ideal S1920x2048 .fp8e4m3) (s : FVec Ideal S15x16 .f32) :
    fn x w s = tests (Cert.ReferenceIdeal.Term.largest x) := rfl

/-- The comparisons at an index. -/
theorem tests_apply (a : FVec Ideal S2x2048x15 .f32) (i : Fin 2) (j : Fin 2048) (g : Fin 15)
    (h : tests a (ix3 (n0 := 2) (n1 := 2048) (n2 := 15) i j g) = 1#1) :
    (a (ix3 (n0 := 2) (n1 := 2048) (n2 := 15) i j g) : EReal) = ((0:ℝ) : EReal) ∨
      ((((7/8 : ℝ) * (2:ℝ)^(-117:ℤ) : ℝ) : EReal) ≤ a (ix3 (n0 := 2) (n1 := 2048) (n2 := 15) i j g) ∧
        a (ix3 (n0 := 2) (n1 := 2048) (n2 := 15) i j g) < (((7/8 : ℝ) * (2:ℝ)^(128:ℤ) : ℝ) : EReal)) := by
  unfold tests Cert.ReferenceIdeal.Term.every at h
  revert h
  pointwise
  rw [Consts.f04E0, Consts.f7F60]
  generalize (7/8 : ℝ) * (2:ℝ)^(-117:ℤ) = p
  generalize (7/8 : ℝ) * (2:ℝ)^(128:ℤ) = q
  generalize (a (ix3 (n0 := 2) (n1 := 2048) (n2 := 15) i j g) : EReal) = z
  intro h
  by_cases h1 : z = 0
  · exact Or.inl h1
  · by_cases h2 : (p : EReal) ≤ z
    · by_cases h3 : z < (q : EReal)
      · exact Or.inr ⟨h2, h3⟩
      · rw [decide_eq_false h1, decide_eq_true h2, decide_eq_false h3] at h
        exact absurd h (by decide)
    · rw [decide_eq_false h1, decide_eq_false h2] at h
      exfalso
      revert h
      cases decide (z < (q : EReal)) <;> decide

/-- The precondition at one group: its largest magnitude is zero, or lies in the range. -/
theorem range_at [Facts] (x : FVec Ideal S2x2048x1920 .bf16) (w : FVec Ideal S1920x2048 .fp8e4m3) (s : FVec Ideal S15x16 .f32)
    (i : Fin 2) (j : Fin 2048) (g : Fin 15) (h : fn x w s (ix3 (n0 := 2) (n1 := 2048) (n2 := 15) i j g) = 1#1) :
    most (Cert.ReferenceIdeal.Term.grp x i j g) = 0 ∨
      ∃ a : ℝ, most (Cert.ReferenceIdeal.Term.grp x i j g) = (a : EReal) ∧
        (7/8 : ℝ) * (2:ℝ)^(-117:ℤ) ≤ a ∧ a < (7/8 : ℝ) * (2:ℝ)^(128:ℤ) := by
  rw [fn_eq] at h
  have h' := tests_apply _ i j g h
  rw [Cert.ReferenceIdeal.Term.largest_apply] at h'
  revert h'
  generalize (7/8 : ℝ) * (2:ℝ)^(-117:ℤ) = p
  generalize (7/8 : ℝ) * (2:ℝ)^(128:ℤ) = q
  generalize most (Cert.ReferenceIdeal.Term.grp x i j g) = z
  rintro (rfl | ⟨h1, h2⟩)
  · exact Or.inl rfl
  · have hb : z ≠ ⊥ := by rintro rfl; exact absurd h1 (not_le.mpr (EReal.bot_lt_coe p))
    have ht : z ≠ ⊤ := by rintro rfl; exact absurd h2 (not_lt.mpr le_top)
    lift z to ℝ using ⟨ht, hb⟩
    exact Or.inr ⟨z, rfl, EReal.coe_le_coe_iff.mp h1, EReal.coe_lt_coe_iff.mp h2⟩

end Cert.Pre_in_range
-- ==== Proof.QuantRuns.lean ====
module
public import proofs.«01_k».proof.Proof.Tiles

/-! The stores of the quantiser, read off the frame's runs: in both cases of the body the codes, the dequantised
values and the scales of the fifteen groups are the ones of the vector quantiser `Quant`. -/

@[expose] public section

namespace Cert.KernelIdeal.Quant
open Idealize.ShloMosaic Cert.KernelIdeal Cert.KernelIdeal.Gen
variable {F : FTy → Type} [FloatOps F]
variable (c : Dev nD) (i : grid0.Coords)

  (arg1 : Memref sig .tc .vmem S512x1920 .bf16) (harg1 : arg1.IsWhole)
  (arg2 : Memref sig .tc .vmem S1920x2048 .fp8e4m3) (harg2 : arg2.IsWhole)
  (arg3 : Memref sig .tc .vmem S15x16 .f32) (harg3 : arg3.IsWhole)
  (arg4 : Memref sig .tc .vmem S512x16x128 .bf16) (harg4 : arg4.IsWhole)
  (arg5 : Memref sig .tc .vmem S512x1920 .fp8e4m3) (harg5 : arg5.IsWhole)
  (arg6 : Memref sig .tc .vmem S512x15 .f32) (harg6 : arg6.IsWhole)
  (arg7 : Memref sig .tc .vmem S1920x2048 .bf16) (harg7 : arg7.IsWhole)
  (arg8 : Memref sig .tc .vmem S16x128 .f32) (harg8 : arg8.IsWhole)
  (arg9 : Memref sig .tc .vmem S512x1920 .bf16) (harg9 : arg9.IsWhole)
  (x0 : Vec F S512x1920 .bf16) (x1 : Vec F S1920x2048 .fp8e4m3) (x2 : Vec F S15x16 .f32)
  (xs0 : Vec F S1920x2048 .bf16)

/-- Case B: the codes stored are the quantiser's. -/
theorem codes_B (hc0 : ¬cond0_0 i) : View.PiecesOf (tiled (fun g => codesV (blk x0 g)) : Vec F S512x1920 .fp8e4m3)
    (kernelRun0_B c i arg1 harg1 arg2 harg2 arg3 harg3 arg4 harg4 arg5 harg5 arg6 harg6 arg7 harg7 arg8 harg8 arg9 harg9 hc0 x0 x1 x2 xs0).2.1 :=
  piecesOf_cons (codes_tile arg1 harg1 x0 14 ![0, 1792] inb_S512x1920_S512x128_0_1792 _ rfl rfl) <|
  piecesOf_cons (codes_tile arg1 harg1 x0 13 ![0, 1664] inb_S512x1920_S512x128_0_1664 _ rfl rfl) <|
  piecesOf_cons (codes_tile arg1 harg1 x0 12 ![0, 1536] inb_S512x1920_S512x128_0_1536 _ rfl rfl) <|
  piecesOf_cons (codes_tile arg1 harg1 x0 11 ![0, 1408] inb_S512x1920_S512x128_0_1408 _ rfl rfl) <|
  piecesOf_cons (codes_tile arg1 harg1 x0 10 ![0, 1280] inb_S512x1920_S512x128_0_1280 _ rfl rfl) <|
  piecesOf_cons (codes_tile arg1 harg1 x0 9 ![0, 1152] inb_S512x1920_S512x128_0_1152 _ rfl rfl) <|
  piecesOf_cons (codes_tile arg1 harg1 x0 8 ![0, 1024] inb_S512x1920_S512x128_0_1024 _ rfl rfl) <|
  piecesOf_cons (codes_tile arg1 harg1 x0 7 ![0, 896] inb_S512x1920_S512x128_0_896 _ rfl rfl) <|
  piecesOf_cons (codes_tile arg1 harg1 x0 6 ![0, 768] inb_S512x1920_S512x128_0_768 _ rfl rfl) <|
  piecesOf_cons (codes_tile arg1 harg1 x0 5 ![0, 640] inb_S512x1920_S512x128_0_640 _ rfl rfl) <|
  piecesOf_cons (codes_tile arg1 harg1 x0 4 ![0, 512] inb_S512x1920_S512x128_0_512 _ rfl rfl) <|
  piecesOf_cons (codes_tile arg1 harg1 x0 3 ![0, 384] inb_S512x1920_S512x128_0_384 _ rfl rfl) <|
  piecesOf_cons (codes_tile arg1 harg1 x0 2 ![0, 256] inb_S512x1920_S512x128_0_256 _ rfl rfl) <|
  piecesOf_cons (codes_tile arg1 harg1 x0 1 ![0, 128] inb_S512x1920_S512x128_0_128 _ rfl rfl) <|
  piecesOf_cons (codes_tile arg1 harg1 x0 0 ![0, 0] inb_S512x1920_S512x128_0_0 _ rfl rfl) <|
  trivial

/-- Case B: the dequantised values stored are the quantiser's. -/
theorem deq_B : View.PiecesOf (tiled (fun g => deqV (blk x0 g)) : Vec F S512x1920 .bf16)
    (kernelRun0_B.sl.HS2_15 c arg1 harg1 x0) :=
  piecesOf_cons (deq_tile arg1 harg1 x0 14 ![0, 1792] inb_S512x1920_S512x128_0_1792 _ rfl rfl) <|
  piecesOf_cons (deq_tile arg1 harg1 x0 13 ![0, 1664] inb_S512x1920_S512x128_0_1664 _ rfl rfl) <|
  piecesOf_cons (deq_tile arg1 harg1 x0 12 ![0, 1536] inb_S512x1920_S512x128_0_1536 _ rfl rfl) <|
  piecesOf_cons (deq_tile arg1 harg1 x0 11 ![0, 1408] inb_S512x1920_S512x128_0_1408 _ rfl rfl) <|
  piecesOf_cons (deq_tile arg1 harg1 x0 10 ![0, 1280] inb_S512x1920_S512x128_0_1280 _ rfl rfl) <|
  piecesOf_cons (deq_tile arg1 harg1 x0 9 ![0, 1152] inb_S512x1920_S512x128_0_1152 _ rfl rfl) <|
  piecesOf_cons (deq_tile arg1 harg1 x0 8 ![0, 1024] inb_S512x1920_S512x128_0_1024 _ rfl rfl) <|
  piecesOf_cons (deq_tile arg1 harg1 x0 7 ![0, 896] inb_S512x1920_S512x128_0_896 _ rfl rfl) <|
  piecesOf_cons (deq_tile arg1 harg1 x0 6 ![0, 768] inb_S512x1920_S512x128_0_768 _ rfl rfl) <|
  piecesOf_cons (deq_tile arg1 harg1 x0 5 ![0, 640] inb_S512x1920_S512x128_0_640 _ rfl rfl) <|
  piecesOf_cons (deq_tile arg1 harg1 x0 4 ![0, 512] inb_S512x1920_S512x128_0_512 _ rfl rfl) <|
  piecesOf_cons (deq_tile arg1 harg1 x0 3 ![0, 384] inb_S512x1920_S512x128_0_384 _ rfl rfl) <|
  piecesOf_cons (deq_tile arg1 harg1 x0 2 ![0, 256] inb_S512x1920_S512x128_0_256 _ rfl rfl) <|
  piecesOf_cons (deq_tile arg1 harg1 x0 1 ![0, 128] inb_S512x1920_S512x128_0_128 _ rfl rfl) <|
  piecesOf_cons (deq_tile arg1 harg1 x0 0 ![0, 0] inb_S512x1920_S512x128_0_0 _ rfl rfl) <|
  trivial

/-- Case B: the scales stored, of the groups as loaded. -/
theorem scales_B (hc0 : ¬cond0_0 i) : (kernelRun0_B c i arg1 harg1 arg2 harg2 arg3 harg3 arg4 harg4 arg5 harg5 arg6 harg6 arg7 harg7 arg8 harg8 arg9 harg9 hc0 x0 x1 x2 xs0).2.2.1
    = [⟨Rect.unit (s := S512x15) ![0, 0] S512x15.size inb_S512x15_S512x15_0_0, scalesV ![
      shapeCast S512x128 (View.readAt (Elt F) arg1.view (Rect.unit (s := S512x1920) ![0, 0]
        S512x128.size inb_S512x1920_S512x128_0_0).toLoadRect (harg1.unread x0)
        : Vec F S512x128 .bf16) shapeCasts_S512x128_S512x128,
      shapeCast S512x128 (View.readAt (Elt F) arg1.view (Rect.unit (s := S512x1920) ![0, 128]
        S512x128.size inb_S512x1920_S512x128_0_128).toLoadRect (harg1.unread x0)
        : Vec F S512x128 .bf16) shapeCasts_S512x128_S512x128,
      shapeCast S512x128 (View.readAt (Elt F) arg1.view (Rect.unit (s := S512x1920) ![0, 256]
        S512x128.size inb_S512x1920_S512x128_0_256).toLoadRect (harg1.unread x0)
        : Vec F S512x128 .bf16) shapeCasts_S512x128_S512x128,
      shapeCast S512x128 (View.readAt (Elt F) arg1.view (Rect.unit (s := S512x1920) ![0, 384]
        S512x128.size inb_S512x1920_S512x128_0_384).toLoadRect (harg1.unread x0)
        : Vec F S512x128 .bf16) shapeCasts_S512x128_S512x128,
      shapeCast S512x128 (View.readAt (Elt F) arg1.view (Rect.unit (s := S512x1920) ![0, 512]
        S512x128.size inb_S512x1920_S512x128_0_512).toLoadRect (harg1.unread x0)
        : Vec F S512x128 .bf16) shapeCasts_S512x128_S512x128,
      shapeCast S512x128 (View.readAt (Elt F) arg1.view (Rect.unit (s := S512x1920) ![0, 640]
        S512x128.size inb_S512x1920_S512x128_0_640).toLoadRect (harg1.unread x0)
        : Vec F S512x128 .bf16) shapeCasts_S512x128_S512x128,
      shapeCast S512x128 (View.readAt (Elt F) arg1.view (Rect.unit (s := S512x1920) ![0, 768]
        S512x128.size inb_S512x1920_S512x128_0_768).toLoadRect (harg1.unread x0)
        : Vec F S512x128 .bf16) shapeCasts_S512x128_S512x128,
      shapeCast S512x128 (View.readAt (Elt F) arg1.view (Rect.unit (s := S512x1920) ![0, 896]
        S512x128.size inb_S512x1920_S512x128_0_896).toLoadRect (harg1.unread x0)
        : Vec F S512x128 .bf16) shapeCasts_S512x128_S512x128,
      shapeCast S512x128 (View.readAt (Elt F) arg1.view (Rect.unit (s := S512x1920) ![0, 1024]
        S512x128.size inb_S512x1920_S512x128_0_1024).toLoadRect (harg1.unread x0)
        : Vec F S512x128 .bf16) shapeCasts_S512x128_S512x128,
      shapeCast S512x128 (View.readAt (Elt F) arg1.view (Rect.unit (s := S512x1920) ![0, 1152]
        S512x128.size inb_S512x1920_S512x128_0_1152).toLoadRect (harg1.unread x0)
        : Vec F S512x128 .bf16) shapeCasts_S512x128_S512x128,
      shapeCast S512x128 (View.readAt (Elt F) arg1.view (Rect.unit (s := S512x1920) ![0, 1280]
        S512x128.size inb_S512x1920_S512x128_0_1280).toLoadRect (harg1.unread x0)
        : Vec F S512x128 .bf16) shapeCasts_S512x128_S512x128,
      shapeCast S512x128 (View.readAt (Elt F) arg1.view (Rect.unit (s := S512x1920) ![0, 1408]
        S512x128.size inb_S512x1920_S512x128_0_1408).toLoadRect (harg1.unread x0)
        : Vec F S512x128 .bf16) shapeCasts_S512x128_S512x128,
      shapeCast S512x128 (View.readAt (Elt F) arg1.view (Rect.unit (s := S512x1920) ![0, 1536]
        S512x128.size inb_S512x1920_S512x128_0_1536).toLoadRect (harg1.unread x0)
        : Vec F S512x128 .bf16) shapeCasts_S512x128_S512x128,
      shapeCast S512x128 (View.readAt (Elt F) arg1.view (Rect.unit (s := S512x1920) ![0, 1664]
        S512x128.size inb_S512x1920_S512x128_0_1664).toLoadRect (harg1.unread x0)
        : Vec F S512x128 .bf16) shapeCasts_S512x128_S512x128,
      shapeCast S512x128 (View.readAt (Elt F) arg1.view (Rect.unit (s := S512x1920) ![0, 1792]
        S512x128.size inb_S512x1920_S512x128_0_1792).toLoadRect (harg1.unread x0)
        : Vec F S512x128 .bf16) shapeCasts_S512x128_S512x128]⟩] := rfl

/-- Case A: the codes stored are the quantiser's. -/
theorem codes_A (hc0 : cond0_0 i) : View.PiecesOf (tiled (fun g => codesV (blk x0 g)) : Vec F S512x1920 .fp8e4m3)
    (kernelRun0_A c i arg1 harg1 arg2 harg2 arg3 harg3 arg4 harg4 arg5 harg5 arg6 harg6 arg7 harg7 arg8 harg8 arg9 harg9 hc0 x0 x1 x2).2.1 :=
  piecesOf_cons (codes_tile arg1 harg1 x0 14 ![0, 1792] inb_S512x1920_S512x128_0_1792 _ rfl rfl) <|
  piecesOf_cons (codes_tile arg1 harg1 x0 13 ![0, 1664] inb_S512x1920_S512x128_0_1664 _ rfl rfl) <|
  piecesOf_cons (codes_tile arg1 harg1 x0 12 ![0, 1536] inb_S512x1920_S512x128_0_1536 _ rfl rfl) <|
  piecesOf_cons (codes_tile arg1 harg1 x0 11 ![0, 1408] inb_S512x1920_S512x128_0_1408 _ rfl rfl) <|
  piecesOf_cons (codes_tile arg1 harg1 x0 10 ![0, 1280] inb_S512x1920_S512x128_0_1280 _ rfl rfl) <|
  piecesOf_cons (codes_tile arg1 harg1 x0 9 ![0, 1152] inb_S512x1920_S512x128_0_1152 _ rfl rfl) <|
  piecesOf_cons (codes_tile arg1 harg1 x0 8 ![0, 1024] inb_S512x1920_S512x128_0_1024 _ rfl rfl) <|
  piecesOf_cons (codes_tile arg1 harg1 x0 7 ![0, 896] inb_S512x1920_S512x128_0_896 _ rfl rfl) <|
  piecesOf_cons (codes_tile arg1 harg1 x0 6 ![0, 768] inb_S512x1920_S512x128_0_768 _ rfl rfl) <|
  piecesOf_cons (codes_tile arg1 harg1 x0 5 ![0, 640] inb_S512x1920_S512x128_0_640 _ rfl rfl) <|
  piecesOf_cons (codes_tile arg1 harg1 x0 4 ![0, 512] inb_S512x1920_S512x128_0_512 _ rfl rfl) <|
  piecesOf_cons (codes_tile arg1 harg1 x0 3 ![0, 384] inb_S512x1920_S512x128_0_384 _ rfl rfl) <|
  piecesOf_cons (codes_tile arg1 harg1 x0 2 ![0, 256] inb_S512x1920_S512x128_0_256 _ rfl rfl) <|
  piecesOf_cons (codes_tile arg1 harg1 x0 1 ![0, 128] inb_S512x1920_S512x128_0_128 _ rfl rfl) <|
  piecesOf_cons (codes_tile arg1 harg1 x0 0 ![0, 0] inb_S512x1920_S512x128_0_0 _ rfl rfl) <|
  trivial

/-- Case A: the dequantised values stored are the quantiser's. -/
theorem deq_A : View.PiecesOf (tiled (fun g => deqV (blk x0 g)) : Vec F S512x1920 .bf16)
    (kernelRun0_A.sl.HS2_15 c arg1 harg1 x0) :=
  piecesOf_cons (deq_tile arg1 harg1 x0 14 ![0, 1792] inb_S512x1920_S512x128_0_1792 _ rfl rfl) <|
  piecesOf_cons (deq_tile arg1 harg1 x0 13 ![0, 1664] inb_S512x1920_S512x128_0_1664 _ rfl rfl) <|
  piecesOf_cons (deq_tile arg1 harg1 x0 12 ![0, 1536] inb_S512x1920_S512x128_0_1536 _ rfl rfl) <|
  piecesOf_cons (deq_tile arg1 harg1 x0 11 ![0, 1408] inb_S512x1920_S512x128_0_1408 _ rfl rfl) <|
  piecesOf_cons (deq_tile arg1 harg1 x0 10 ![0, 1280] inb_S512x1920_S512x128_0_1280 _ rfl rfl) <|
  piecesOf_cons (deq_tile arg1 harg1 x0 9 ![0, 1152] inb_S512x1920_S512x128_0_1152 _ rfl rfl) <|
  piecesOf_cons (deq_tile arg1 harg1 x0 8 ![0, 1024] inb_S512x1920_S512x128_0_1024 _ rfl rfl) <|
  piecesOf_cons (deq_tile arg1 harg1 x0 7 ![0, 896] inb_S512x1920_S512x128_0_896 _ rfl rfl) <|
  piecesOf_cons (deq_tile arg1 harg1 x0 6 ![0, 768] inb_S512x1920_S512x128_0_768 _ rfl rfl) <|
  piecesOf_cons (deq_tile arg1 harg1 x0 5 ![0, 640] inb_S512x1920_S512x128_0_640 _ rfl rfl) <|
  piecesOf_cons (deq_tile arg1 harg1 x0 4 ![0, 512] inb_S512x1920_S512x128_0_512 _ rfl rfl) <|
  piecesOf_cons (deq_tile arg1 harg1 x0 3 ![0, 384] inb_S512x1920_S512x128_0_384 _ rfl rfl) <|
  piecesOf_cons (deq_tile arg1 harg1 x0 2 ![0, 256] inb_S512x1920_S512x128_0_256 _ rfl rfl) <|
  piecesOf_cons (deq_tile arg1 harg1 x0 1 ![0, 128] inb_S512x1920_S512x128_0_128 _ rfl rfl) <|
  piecesOf_cons (deq_tile arg1 harg1 x0 0 ![0, 0] inb_S512x1920_S512x128_0_0 _ rfl rfl) <|
  trivial

/-- Case A: the scales stored, of the groups as loaded. -/
theorem scales_A (hc0 : cond0_0 i) : (kernelRun0_A c i arg1 harg1 arg2 harg2 arg3 harg3 arg4 harg4 arg5 harg5 arg6 harg6 arg7 harg7 arg8 harg8 arg9 harg9 hc0 x0 x1 x2).2.2.1
    = [⟨Rect.unit (s := S512x15) ![0, 0] S512x15.size inb_S512x15_S512x15_0_0, scalesV ![
      shapeCast S512x128 (View.readAt (Elt F) arg1.view (Rect.unit (s := S512x1920) ![0, 0]
        S512x128.size inb_S512x1920_S512x128_0_0).toLoadRect (harg1.unread x0)
        : Vec F S512x128 .bf16) shapeCasts_S512x128_S512x128,
      shapeCast S512x128 (View.readAt (Elt F) arg1.view (Rect.unit (s := S512x1920) ![0, 128]
        S512x128.size inb_S512x1920_S512x128_0_128).toLoadRect (harg1.unread x0)
        : Vec F S512x128 .bf16) shapeCasts_S512x128_S512x128,
      shapeCast S512x128 (View.readAt (Elt F) arg1.view (Rect.unit (s := S512x1920) ![0, 256]
        S512x128.size inb_S512x1920_S512x128_0_256).toLoadRect (harg1.unread x0)
        : Vec F S512x128 .bf16) shapeCasts_S512x128_S512x128,
      shapeCast S512x128 (View.readAt (Elt F) arg1.view (Rect.unit (s := S512x1920) ![0, 384]
        S512x128.size inb_S512x1920_S512x128_0_384).toLoadRect (harg1.unread x0)
        : Vec F S512x128 .bf16) shapeCasts_S512x128_S512x128,
      shapeCast S512x128 (View.readAt (Elt F) arg1.view (Rect.unit (s := S512x1920) ![0, 512]
        S512x128.size inb_S512x1920_S512x128_0_512).toLoadRect (harg1.unread x0)
        : Vec F S512x128 .bf16) shapeCasts_S512x128_S512x128,
      shapeCast S512x128 (View.readAt (Elt F) arg1.view (Rect.unit (s := S512x1920) ![0, 640]
        S512x128.size inb_S512x1920_S512x128_0_640).toLoadRect (harg1.unread x0)
        : Vec F S512x128 .bf16) shapeCasts_S512x128_S512x128,
      shapeCast S512x128 (View.readAt (Elt F) arg1.view (Rect.unit (s := S512x1920) ![0, 768]
        S512x128.size inb_S512x1920_S512x128_0_768).toLoadRect (harg1.unread x0)
        : Vec F S512x128 .bf16) shapeCasts_S512x128_S512x128,
      shapeCast S512x128 (View.readAt (Elt F) arg1.view (Rect.unit (s := S512x1920) ![0, 896]
        S512x128.size inb_S512x1920_S512x128_0_896).toLoadRect (harg1.unread x0)
        : Vec F S512x128 .bf16) shapeCasts_S512x128_S512x128,
      shapeCast S512x128 (View.readAt (Elt F) arg1.view (Rect.unit (s := S512x1920) ![0, 1024]
        S512x128.size inb_S512x1920_S512x128_0_1024).toLoadRect (harg1.unread x0)
        : Vec F S512x128 .bf16) shapeCasts_S512x128_S512x128,
      shapeCast S512x128 (View.readAt (Elt F) arg1.view (Rect.unit (s := S512x1920) ![0, 1152]
        S512x128.size inb_S512x1920_S512x128_0_1152).toLoadRect (harg1.unread x0)
        : Vec F S512x128 .bf16) shapeCasts_S512x128_S512x128,
      shapeCast S512x128 (View.readAt (Elt F) arg1.view (Rect.unit (s := S512x1920) ![0, 1280]
        S512x128.size inb_S512x1920_S512x128_0_1280).toLoadRect (harg1.unread x0)
        : Vec F S512x128 .bf16) shapeCasts_S512x128_S512x128,
      shapeCast S512x128 (View.readAt (Elt F) arg1.view (Rect.unit (s := S512x1920) ![0, 1408]
        S512x128.size inb_S512x1920_S512x128_0_1408).toLoadRect (harg1.unread x0)
        : Vec F S512x128 .bf16) shapeCasts_S512x128_S512x128,
      shapeCast S512x128 (View.readAt (Elt F) arg1.view (Rect.unit (s := S512x1920) ![0, 1536]
        S512x128.size inb_S512x1920_S512x128_0_1536).toLoadRect (harg1.unread x0)
        : Vec F S512x128 .bf16) shapeCasts_S512x128_S512x128,
      shapeCast S512x128 (View.readAt (Elt F) arg1.view (Rect.unit (s := S512x1920) ![0, 1664]
        S512x128.size inb_S512x1920_S512x128_0_1664).toLoadRect (harg1.unread x0)
        : Vec F S512x128 .bf16) shapeCasts_S512x128_S512x128,
      shapeCast S512x128 (View.readAt (Elt F) arg1.view (Rect.unit (s := S512x1920) ![0, 1792]
        S512x128.size inb_S512x1920_S512x128_0_1792).toLoadRect (harg1.unread x0)
        : Vec F S512x128 .bf16) shapeCasts_S512x128_S512x128]⟩] := rfl

end Cert.KernelIdeal.Quant
-- ==== Proof.Regroup.lean ====
module
public import proofs.«01_k».proof.Proof.Gen.KernelIdeal.Frame
public import Idealize.ShloMosaic.Lib.Pipeline.ValueKit
public import Idealize.ShloMosaic.Lib.Pointwise

/-! The weight's regrouping: the kernel's moves of 16 tiles of 128 columns (a gather along the lanes, four stages of
selects, a rotation), and where each number goes. -/

@[expose] public section

namespace Cert.KernelIdeal.Regroup
open Idealize.ShloMosaic Cert.KernelIdeal Cert.KernelIdeal.Gen
variable {F : FTy → Type} [FloatOps F]

/-- The lane number. -/
def laneV : IVec S32x128 32 := iota .tc S32x128 32 [1] iota_S32x128_d1_w32

/-- The lane number over eight, as the kernel divides. -/
noncomputable def chunkV : IVec S32x128 32 :=
  k0_pay587 laneV 8#32 (divsi laneV (broadcast S32x128 8#32)) 0#32

/-- The lanes tile `nb` is gathered from. -/
def gathIdx (ch : IVec S32x128 32) (nb : BitVec 32) : IVec S32x128 32 :=
  let eight : BitVec 32 := Scalar.select (Scalar.cmpi .eq 8#32 0#32) 1#32 8#32
  let m : IVec S32x128 32 := remsi (iota .tc S32x128 32 [1] iota_S32x128_d1_w32) (broadcast S32x128 eight)
  let fix : IVec S32x128 1 := andi (xori (cmpi .slt m (broadcast S32x128 0#32))
    (broadcastTo S32x128 (broadcast S32x128 (Scalar.cmpi .slt eight 0#32)) broadcasts_S32x128_S32x128))
    (cmpi .ne m (broadcast S32x128 0#32))
  let low : IVec S32x128 32 := select fix (addi m (broadcast S32x128 eight)) m
  let at0 : IVec S32x128 32 := addi (muli low (broadcast S32x128 16#32))
    (andi (subi ch (broadcast S32x128 nb)) (broadcast S32x128 15#32))
  shapeCast S32x128 (shapeCast S32x128x1
    (select (cmpi .slt at0 (broadcast S32x128 0#32)) (addi at0 (broadcast S32x128 128#32)) at0)
    shapeCasts_S32x128_S32x128x1) shapeCasts_S32x128x1_S32x128

/-- A tile gathered. -/
def gath (ch : IVec S32x128 32) (nb : BitVec 32) (t : FVec F S32x128 .f32) : FVec F S32x128 .f32 :=
  dynamicGather 1 t (gathIdx ch nb)

/-- One stage of selects: where the chunk has the stage's bit, the tile `n` further on. -/
def stage (ch : IVec S32x128 32) (st : BitVec 32) (n : Fin 16) (o : Fin 16 → FVec F S32x128 .f32) :
    Fin 16 → FVec F S32x128 .f32 :=
  fun j => select (cmpi .ne (andi ch (broadcast S32x128 st)) (broadcast S32x128 0#32)) (o (j + n)) (o j)

/-- The sixteen tiles after the gathers and the four stages. -/
def staged (ch : IVec S32x128 32) (t : Fin 16 → FVec F S32x128 .f32) : Fin 16 → FVec F S32x128 .f32 :=
  stage ch 8#32 8 <| stage ch 4#32 4 <| stage ch 2#32 2 <| stage ch 1#32 1 <|
    fun nb => gath ch (BitVec.ofNat 32 nb.val) (t nb)

/-- A rotation along the lanes. -/
def rolled (sh : BitVec 32) (x : FVec F S32x128 .f32) : FVec F S32x128 .f32 :=
  dynamicRotate 1 sh none x rotates_S32x128_d1

/-- What is stored of a regrouped tile: its numbers times the scales of its row. -/
def wpay (sv : FVec F S1x128 .bf16) (x : FVec F S32x128 .f32) : FVec F S32x128 .bf16 :=
  shapeCast S32x128 (mulf (truncf .bf16 x bitsLt_bf16_f32) (broadcastTo S32x128 sv broadcasts_S1x128_S32x128))
    shapeCasts_S32x128_S32x128

/-- The sixteen tiles of 32 rows loaded in trip `k`, part `r`. -/
noncomputable def loaded (i : grid0.Coords) (arg2 : Memref sig .tc .vmem S1920x2048 .fp8e4m3) (k0_h1 : k0_cond1 i = 1#1)
    (X_arg2 : BufTy.Contents (Elt F) arg2.view.ty) (k : Fin k0_t1_loop.trips) (r : Fin 4) : Fin 16 → Vec F S32x128 .fp8e4m3 :=
  ![View.readAt (Elt F) arg2.view (Rect.unit (s := S1920x2048) (k0_off2 k (BitVec.ofNat 32 (32 * r.val))) S32x128.size (k0_off2_inb i k k0_h1 r)).toLoadRect X_arg2,
     View.readAt (Elt F) arg2.view (Rect.unit (s := S1920x2048) (k0_off3 k (BitVec.ofNat 32 (32 * r.val))) S32x128.size (k0_off3_inb i k k0_h1 r)).toLoadRect X_arg2,
     View.readAt (Elt F) arg2.view (Rect.unit (s := S1920x2048) (k0_off4 k (BitVec.ofNat 32 (32 * r.val))) S32x128.size (k0_off4_inb i k k0_h1 r)).toLoadRect X_arg2,
     View.readAt (Elt F) arg2.view (Rect.unit (s := S1920x2048) (k0_off5 k (BitVec.ofNat 32 (32 * r.val))) S32x128.size (k0_off5_inb i k k0_h1 r)).toLoadRect X_arg2,
     View.readAt (Elt F) arg2.view (Rect.unit (s := S1920x2048) (k0_off6 k (BitVec.ofNat 32 (32 * r.val))) S32x128.size (k0_off6_inb i k k0_h1 r)).toLoadRect X_arg2,
     View.readAt (Elt F) arg2.view (Rect.unit (s := S1920x2048) (k0_off7 k (BitVec.ofNat 32 (32 * r.val))) S32x128.size (k0_off7_inb i k k0_h1 r)).toLoadRect X_arg2,
     View.readAt (Elt F) arg2.view (Rect.unit (s := S1920x2048) (k0_off8 k (BitVec.ofNat 32 (32 * r.val))) S32x128.size (k0_off8_inb i k k0_h1 r)).toLoadRect X_arg2,
     View.readAt (Elt F) arg2.view (Rect.unit (s := S1920x2048) (k0_off9 k (BitVec.ofNat 32 (32 * r.val))) S32x128.size (k0_off9_inb i k k0_h1 r)).toLoadRect X_arg2,
     View.readAt (Elt F) arg2.view (Rect.unit (s := S1920x2048) (k0_off10 k (BitVec.ofNat 32 (32 * r.val))) S32x128.size (k0_off10_inb i k k0_h1 r)).toLoadRect X_arg2,
     View.readAt (Elt F) arg2.view (Rect.unit (s := S1920x2048) (k0_off11 k (BitVec.ofNat 32 (32 * r.val))) S32x128.size (k0_off11_inb i k k0_h1 r)).toLoadRect X_arg2,
     View.readAt (Elt F) arg2.view (Rect.unit (s := S1920x2048) (k0_off12 k (BitVec.ofNat 32 (32 * r.val))) S32x128.size (k0_off12_inb i k k0_h1 r)).toLoadRect X_arg2,
     View.readAt (Elt F) arg2.view (Rect.unit (s := S1920x2048) (k0_off13 k (BitVec.ofNat 32 (32 * r.val))) S32x128.size (k0_off13_inb i k k0_h1 r)).toLoadRect X_arg2,
     View.readAt (Elt F) arg2.view (Rect.unit (s := S1920x2048) (k0_off14 k (BitVec.ofNat 32 (32 * r.val))) S32x128.size (k0_off14_inb i k k0_h1 r)).toLoadRect X_arg2,
     View.readAt (Elt F) arg2.view (Rect.unit (s := S1920x2048) (k0_off15 k (BitVec.ofNat 32 (32 * r.val))) S32x128.size (k0_off15_inb i k k0_h1 r)).toLoadRect X_arg2,
     View.readAt (Elt F) arg2.view (Rect.unit (s := S1920x2048) (k0_off16 k (BitVec.ofNat 32 (32 * r.val))) S32x128.size (k0_off16_inb i k k0_h1 r)).toLoadRect X_arg2,
     View.readAt (Elt F) arg2.view (Rect.unit (s := S1920x2048) (k0_off17 k (BitVec.ofNat 32 (32 * r.val))) S32x128.size (k0_off17_inb i k k0_h1 r)).toLoadRect X_arg2]

/-- The tiles loaded, in f32. -/
noncomputable def tiles (T : Fin 16 → Vec F S32x128 .fp8e4m3) : Fin 16 → FVec F S32x128 .f32 :=
  fun nb => extf .f32 (T nb) bitsLt_fp8e4m3_f32

/-- The chunk at an index. -/
theorem chunk_nat (r : Fin 32) (l : Fin 128) : chunkV (ix2 r l) = BitVec.ofNat 32 (l.val / 8) := by
  unfold chunkV k0_pay587 laneV
  pointwise
  revert l
  decide +kernel

/-- The lane gathered from at an index. -/
theorem gathIdx_nat (nb : Fin 16) (r : Fin 32) (l : Fin 128) :
    (gathIdx chunkV (BitVec.ofNat 32 nb.val) (ix2 r l)).toNat = l.val % 8 * 16 + (l.val / 8 + (16 - nb.val)) % 16 := by
  unfold gathIdx
  pointwise
  rw [chunk_nat]
  revert nb l
  decide +kernel

/-- A gathered tile at an index. -/
theorem gath_apply (nb : Fin 16) (t : FVec F S32x128 .f32) (r : Fin 32) (l m : Fin 128)
    (hm : m.val = l.val % 8 * 16 + (l.val / 8 + (16 - nb.val)) % 16) :
    gath chunkV (BitVec.ofNat 32 nb.val) t (ix2 r l) = t (ix2 r m) := by
  unfold gath dynamicGather
  congr 1
  funext b
  match b with
  | ⟨0, _⟩ => rfl
  | ⟨1, _⟩ =>
    refine Fin.ext ?_
    show (gathIdx chunkV (BitVec.ofNat 32 nb.val) (ix2 r l)).toNat % 128 = m.val
    rw [gathIdx_nat, ← hm, Nat.mod_eq_of_lt m.isLt]

/-- How far on a stage reads at a lane. -/
def ahead (st : BitVec 32) (n : Fin 16) (l : Fin 128) : Fin 16 :=
  if IntOp.cmpi .ne (IntOp.andi (BitVec.ofNat 32 (l.val / 8)) st) 0#32 = 1#1 then n else 0

/-- A stage at an index. -/
theorem stage_apply (st : BitVec 32) (n : Fin 16) (o : Fin 16 → FVec F S32x128 .f32) (j : Fin 16) (r : Fin 32)
    (l : Fin 128) : stage chunkV st n o j (ix2 r l) = o (j + ahead st n l) (ix2 r l) := by
  show Scalar.select (IntOp.cmpi .ne (IntOp.andi (chunkV (ix2 r l)) st) 0#32) _ _ = _
  rw [chunk_nat]
  unfold Scalar.select ahead
  by_cases h : IntOp.cmpi .ne (IntOp.andi (BitVec.ofNat 32 (l.val / 8)) st) 0#32 = 1#1
  · rw [if_pos h]; exact if_pos h
  · rw [if_neg h, add_zero]; exact if_neg h

theorem ahead_sum (l : Fin 128) : ahead 8#32 8 l + (ahead 4#32 4 l + (ahead 2#32 2 l + ahead 1#32 1 l))
    = (⟨l.val / 8, by omega⟩ : Fin 16) := by
  revert l
  decide +kernel

/-- The four stages at an index: each chunk of eight lanes reads as many tiles on as its number. -/
theorem staged_apply (t : Fin 16 → FVec F S32x128 .f32) (j nb : Fin 16) (r : Fin 32) (l m : Fin 128)
    (hnb : nb.val = (j.val + l.val / 8) % 16)
    (hm : m.val = l.val % 8 * 16 + (l.val / 8 + (16 - nb.val)) % 16) :
    staged chunkV t j (ix2 r l) = t nb (ix2 r m) := by
  unfold staged
  rw [stage_apply, stage_apply, stage_apply, stage_apply, add_assoc, add_assoc, add_assoc, ahead_sum]
  have e : j + (⟨l.val / 8, by omega⟩ : Fin 16) = nb := Fin.ext (by rw [Fin.val_add]; exact hnb.symm)
  rw [e]
  exact gath_apply nb (t nb) r l m hm

/-- Head 0 at an index: column `l` is column `16 l` of the sixteen tiles. -/
theorem head_zero (t : Fin 16 → FVec F S32x128 .f32) (r : Fin 32) (l : Fin 128) :
    staged chunkV t 0 (ix2 r l) = t ⟨l.val / 8, by omega⟩ (ix2 r ⟨l.val % 8 * 16 + (0 : Fin 16).val, by omega⟩) :=
  staged_apply t 0 _ r l _ (by show l.val / 8 = (0 + l.val / 8) % 16; omega)
    (by show l.val % 8 * 16 + 0 = l.val % 8 * 16 + (l.val / 8 + (16 - l.val / 8)) % 16; omega)

/-- Head `h` at an index: column `l` is column `16 l + h` of the sixteen tiles. -/
theorem head_succ (h j : Fin 16) (sh : BitVec 32) (hj : j.val + h.val = 16) (hsh : sh.toNat + 8 * h.val = 128)
    (t : Fin 16 → FVec F S32x128 .f32) (r : Fin 32) (l : Fin 128) :
    rolled sh (staged chunkV t j) (ix2 r l) = t ⟨l.val / 8, by omega⟩ (ix2 r ⟨l.val % 8 * 16 + h.val, by omega⟩) := by
  have e : rolled sh (staged chunkV t j) (ix2 r l)
      = staged chunkV t j (ix2 r (⟨(l.val + 8 * h.val) % 128, Nat.mod_lt _ (by decide)⟩ : Fin 128)) := by
    refine congrArg (staged chunkV t j) ?_
    funext b
    match b with
    | ⟨0, _⟩ => rfl
    | ⟨1, _⟩ =>
      refine Fin.ext ?_
      show (l.val + 128 - (sh.toNat + 0) % 128) % 128 = (l.val + 8 * h.val) % 128
      omega
  rw [e]
  refine staged_apply t j _ r _ _ ?_ ?_
  · show l.val / 8 = (j.val + (l.val + 8 * h.val) % 128 / 8) % 16
    omega
  · show l.val % 8 * 16 + h.val = (l.val + 8 * h.val) % 128 % 8 * 16 +
      ((l.val + 8 * h.val) % 128 / 8 + (16 - l.val / 8)) % 16
    omega

end Cert.KernelIdeal.Regroup
-- ==== Proof.Regroup0.lean ====
module
public import proofs.«01_k».proof.Proof.Regroup

/-! The sixteen stores of rows 0 to 31 of a trip of the weight's loop: each is a regrouped tile times the scales. -/

@[expose] public section

namespace Cert.KernelIdeal.Regroup
open Idealize.ShloMosaic Cert.KernelIdeal Cert.KernelIdeal.Gen
variable {F : FTy → Type} [FloatOps F]
variable (i : grid0.Coords) (arg2 : Memref sig .tc .vmem S1920x2048 .fp8e4m3)
  (arg8 : Memref sig .tc .vmem S16x128 .f32) (k0_h1 : k0_cond1 i = 1#1)
  (X_arg2 : BufTy.Contents (Elt F) arg2.view.ty) (X_arg8 : BufTy.Contents (Elt F) arg8.view.ty)
  (k : Fin k0_t1_loop.trips)

set_option maxRecDepth 16384

set_option maxHeartbeats 2000000 in
/-- Head 0. -/
theorem piece_0_0 : k0_pay134 (trip_k0_t1.sl.r i arg8 k0_h1 X_arg8 k)
      (trip_k0_t1.sl.v2536 i arg2 k0_h1 laneV 8#32 (divsi laneV (broadcast S32x128 8#32)) 0#32 X_arg2 k)
    = wpay (trip_k0_t1.sl.r i arg8 k0_h1 X_arg8 k)
      (staged chunkV (tiles (loaded i arg2 k0_h1 X_arg2 k 0)) 0) := rfl

set_option maxHeartbeats 2000000 in
/-- Head 1. -/
theorem piece_0_1 : k0_pay135 (trip_k0_t1.sl.r i arg8 k0_h1 X_arg8 k)
      (trip_k0_t1.sl.v2552 i arg2 k0_h1 laneV 8#32 (divsi laneV (broadcast S32x128 8#32)) 0#32 X_arg2 k)
    = wpay (trip_k0_t1.sl.r i arg8 k0_h1 X_arg8 k)
      (rolled 120#32 (staged chunkV (tiles (loaded i arg2 k0_h1 X_arg2 k 0)) 15)) := rfl

set_option maxHeartbeats 2000000 in
/-- Head 2. -/
theorem piece_0_2 : k0_pay136 (trip_k0_t1.sl.r i arg8 k0_h1 X_arg8 k)
      (trip_k0_t1.sl.v2553 i arg2 k0_h1 laneV 8#32 (divsi laneV (broadcast S32x128 8#32)) 0#32 X_arg2 k)
    = wpay (trip_k0_t1.sl.r i arg8 k0_h1 X_arg8 k)
      (rolled 112#32 (staged chunkV (tiles (loaded i arg2 k0_h1 X_arg2 k 0)) 14)) := rfl

set_option maxHeartbeats 2000000 in
/-- Head 3. -/
theorem piece_0_3 : trip_k0_t1.sl.r_30 i arg2 arg8 k0_h1 laneV 8#32 (divsi laneV (broadcast S32x128 8#32)) 0#32 X_arg2 X_arg8 k
    = wpay (trip_k0_t1.sl.r i arg8 k0_h1 X_arg8 k)
      (rolled 104#32 (staged chunkV (tiles (loaded i arg2 k0_h1 X_arg2 k 0)) 13)) := rfl

set_option maxHeartbeats 2000000 in
/-- Head 4. -/
theorem piece_0_4 : k0_pay138 (trip_k0_t1.sl.r i arg8 k0_h1 X_arg8 k)
      (trip_k0_t1.sl.r_18 i arg2 k0_h1 laneV 8#32 (divsi laneV (broadcast S32x128 8#32)) 0#32 X_arg2 k)
    = wpay (trip_k0_t1.sl.r i arg8 k0_h1 X_arg8 k)
      (rolled 96#32 (staged chunkV (tiles (loaded i arg2 k0_h1 X_arg2 k 0)) 12)) := rfl

set_option maxHeartbeats 2000000 in
/-- Head 5. -/
theorem piece_0_5 : k0_pay139 (trip_k0_t1.sl.r i arg8 k0_h1 X_arg8 k)
      (trip_k0_t1.sl.r_19 i arg2 k0_h1 laneV 8#32 (divsi laneV (broadcast S32x128 8#32)) 0#32 X_arg2 k)
    = wpay (trip_k0_t1.sl.r i arg8 k0_h1 X_arg8 k)
      (rolled 88#32 (staged chunkV (tiles (loaded i arg2 k0_h1 X_arg2 k 0)) 11)) := rfl

set_option maxHeartbeats 2000000 in
/-- Head 6. -/
theorem piece_0_6 : k0_pay140 (trip_k0_t1.sl.r i arg8 k0_h1 X_arg8 k)
      (trip_k0_t1.sl.r_20 i arg2 k0_h1 laneV 8#32 (divsi laneV (broadcast S32x128 8#32)) 0#32 X_arg2 k)
    = wpay (trip_k0_t1.sl.r i arg8 k0_h1 X_arg8 k)
      (rolled 80#32 (staged chunkV (tiles (loaded i arg2 k0_h1 X_arg2 k 0)) 10)) := rfl

set_option maxHeartbeats 2000000 in
/-- Head 7. -/
theorem piece_0_7 : k0_pay141 (trip_k0_t1.sl.r i arg8 k0_h1 X_arg8 k)
      (trip_k0_t1.sl.r_21 i arg2 k0_h1 laneV 8#32 (divsi laneV (broadcast S32x128 8#32)) 0#32 X_arg2 k)
    = wpay (trip_k0_t1.sl.r i arg8 k0_h1 X_arg8 k)
      (rolled 72#32 (staged chunkV (tiles (loaded i arg2 k0_h1 X_arg2 k 0)) 9)) := rfl

set_option maxHeartbeats 2000000 in
/-- Head 8. -/
theorem piece_0_8 : k0_pay142 (trip_k0_t1.sl.r i arg8 k0_h1 X_arg8 k)
      (trip_k0_t1.sl.r_22 i arg2 k0_h1 laneV 8#32 (divsi laneV (broadcast S32x128 8#32)) 0#32 X_arg2 k)
    = wpay (trip_k0_t1.sl.r i arg8 k0_h1 X_arg8 k)
      (rolled 64#32 (staged chunkV (tiles (loaded i arg2 k0_h1 X_arg2 k 0)) 8)) := rfl

set_option maxHeartbeats 2000000 in
/-- Head 9. -/
theorem piece_0_9 : k0_pay143 (trip_k0_t1.sl.r i arg8 k0_h1 X_arg8 k)
      (trip_k0_t1.sl.r_23 i arg2 k0_h1 laneV 8#32 (divsi laneV (broadcast S32x128 8#32)) 0#32 X_arg2 k)
    = wpay (trip_k0_t1.sl.r i arg8 k0_h1 X_arg8 k)
      (rolled 56#32 (staged chunkV (tiles (loaded i arg2 k0_h1 X_arg2 k 0)) 7)) := rfl

set_option maxHeartbeats 2000000 in
/-- Head 10. -/
theorem piece_0_10 : k0_pay145 (trip_k0_t1.sl.r_31 i arg2 arg8 k0_h1 laneV 8#32 (divsi laneV (broadcast S32x128 8#32)) 0#32 X_arg2 X_arg8 k)
    = wpay (trip_k0_t1.sl.r i arg8 k0_h1 X_arg8 k)
      (rolled 48#32 (staged chunkV (tiles (loaded i arg2 k0_h1 X_arg2 k 0)) 6)) := rfl

set_option maxHeartbeats 2000000 in
/-- Head 11. -/
theorem piece_0_11 : k0_pay146 (trip_k0_t1.sl.r i arg8 k0_h1 X_arg8 k)
      (trip_k0_t1.sl.r_25 i arg2 k0_h1 laneV 8#32 (divsi laneV (broadcast S32x128 8#32)) 0#32 X_arg2 k)
    = wpay (trip_k0_t1.sl.r i arg8 k0_h1 X_arg8 k)
      (rolled 40#32 (staged chunkV (tiles (loaded i arg2 k0_h1 X_arg2 k 0)) 5)) := rfl

set_option maxHeartbeats 2000000 in
/-- Head 12. -/
theorem piece_0_12 : k0_pay147 (trip_k0_t1.sl.r i arg8 k0_h1 X_arg8 k)
      (trip_k0_t1.sl.r_26 i arg2 k0_h1 laneV 8#32 (divsi laneV (broadcast S32x128 8#32)) 0#32 X_arg2 k)
    = wpay (trip_k0_t1.sl.r i arg8 k0_h1 X_arg8 k)
      (rolled 32#32 (staged chunkV (tiles (loaded i arg2 k0_h1 X_arg2 k 0)) 4)) := rfl

set_option maxHeartbeats 2000000 in
/-- Head 13. -/
theorem piece_0_13 : k0_pay148 (trip_k0_t1.sl.r i arg8 k0_h1 X_arg8 k)
      (trip_k0_t1.sl.r_27 i arg2 k0_h1 laneV 8#32 (divsi laneV (broadcast S32x128 8#32)) 0#32 X_arg2 k)
    = wpay (trip_k0_t1.sl.r i arg8 k0_h1 X_arg8 k)
      (rolled 24#32 (staged chunkV (tiles (loaded i arg2 k0_h1 X_arg2 k 0)) 3)) := rfl

set_option maxHeartbeats 2000000 in
/-- Head 14. -/
theorem piece_0_14 : k0_pay149 (trip_k0_t1.sl.r i arg8 k0_h1 X_arg8 k)
      (trip_k0_t1.sl.r_28 i arg2 k0_h1 laneV 8#32 (divsi laneV (broadcast S32x128 8#32)) 0#32 X_arg2 k)
    = wpay (trip_k0_t1.sl.r i arg8 k0_h1 X_arg8 k)
      (rolled 16#32 (staged chunkV (tiles (loaded i arg2 k0_h1 X_arg2 k 0)) 2)) := rfl

set_option maxHeartbeats 2000000 in
/-- Head 15. -/
theorem piece_0_15 : k0_pay150 (trip_k0_t1.sl.r i arg8 k0_h1 X_arg8 k)
      (trip_k0_t1.sl.r_29 i arg2 k0_h1 laneV 8#32 (divsi laneV (broadcast S32x128 8#32)) 0#32 X_arg2 k)
    = wpay (trip_k0_t1.sl.r i arg8 k0_h1 X_arg8 k)
      (rolled 8#32 (staged chunkV (tiles (loaded i arg2 k0_h1 X_arg2 k 0)) 1)) := rfl

end Cert.KernelIdeal.Regroup
-- ==== Proof.Regroup1.lean ====
module
public import proofs.«01_k».proof.Proof.Regroup

/-! The sixteen stores of rows 32 to 63 of a trip of the weight's loop: each is a regrouped tile times the scales. -/

@[expose] public section

namespace Cert.KernelIdeal.Regroup
open Idealize.ShloMosaic Cert.KernelIdeal Cert.KernelIdeal.Gen
variable {F : FTy → Type} [FloatOps F]
variable (i : grid0.Coords) (arg2 : Memref sig .tc .vmem S1920x2048 .fp8e4m3)
  (arg8 : Memref sig .tc .vmem S16x128 .f32) (k0_h1 : k0_cond1 i = 1#1)
  (X_arg2 : BufTy.Contents (Elt F) arg2.view.ty) (X_arg8 : BufTy.Contents (Elt F) arg8.view.ty)
  (k : Fin k0_t1_loop.trips)

set_option maxRecDepth 16384

set_option maxHeartbeats 2000000 in
/-- Head 0. -/
theorem piece_1_0 : k0_pay280 (trip_k0_t1.sl.r i arg8 k0_h1 X_arg8 k)
      (trip_k0_t1.sl.v3291 i arg2 k0_h1 laneV 8#32 (divsi laneV (broadcast S32x128 8#32)) 0#32 X_arg2 k)
    = wpay (trip_k0_t1.sl.r i arg8 k0_h1 X_arg8 k)
      (staged chunkV (tiles (loaded i arg2 k0_h1 X_arg2 k 1)) 0) := rfl

set_option maxHeartbeats 2000000 in
/-- Head 1. -/
theorem piece_1_1 : k0_pay281 (trip_k0_t1.sl.r i arg8 k0_h1 X_arg8 k)
      (trip_k0_t1.sl.v3307 i arg2 k0_h1 laneV 8#32 (divsi laneV (broadcast S32x128 8#32)) 0#32 X_arg2 k)
    = wpay (trip_k0_t1.sl.r i arg8 k0_h1 X_arg8 k)
      (rolled 120#32 (staged chunkV (tiles (loaded i arg2 k0_h1 X_arg2 k 1)) 15)) := rfl

set_option maxHeartbeats 2000000 in
/-- Head 2. -/
theorem piece_1_2 : k0_pay282 (trip_k0_t1.sl.r i arg8 k0_h1 X_arg8 k)
      (trip_k0_t1.sl.v3308 i arg2 k0_h1 laneV 8#32 (divsi laneV (broadcast S32x128 8#32)) 0#32 X_arg2 k)
    = wpay (trip_k0_t1.sl.r i arg8 k0_h1 X_arg8 k)
      (rolled 112#32 (staged chunkV (tiles (loaded i arg2 k0_h1 X_arg2 k 1)) 14)) := rfl

set_option maxHeartbeats 2000000 in
/-- Head 3. -/
theorem piece_1_3 : k0_pay283 (trip_k0_t1.sl.r i arg8 k0_h1 X_arg8 k)
      (trip_k0_t1.sl.v3309 i arg2 k0_h1 laneV 8#32 (divsi laneV (broadcast S32x128 8#32)) 0#32 X_arg2 k)
    = wpay (trip_k0_t1.sl.r i arg8 k0_h1 X_arg8 k)
      (rolled 104#32 (staged chunkV (tiles (loaded i arg2 k0_h1 X_arg2 k 1)) 13)) := rfl

set_option maxHeartbeats 2000000 in
/-- Head 4. -/
theorem piece_1_4 : k0_pay284 (trip_k0_t1.sl.r i arg8 k0_h1 X_arg8 k)
      (trip_k0_t1.sl.v3310 i arg2 k0_h1 laneV 8#32 (divsi laneV (broadcast S32x128 8#32)) 0#32 X_arg2 k)
    = wpay (trip_k0_t1.sl.r i arg8 k0_h1 X_arg8 k)
      (rolled 96#32 (staged chunkV (tiles (loaded i arg2 k0_h1 X_arg2 k 1)) 12)) := rfl

set_option maxHeartbeats 2000000 in
/-- Head 5. -/
theorem piece_1_5 : k0_pay286 (trip_k0_t1.sl.r_53 i arg2 arg8 k0_h1 laneV 8#32 (divsi laneV (broadcast S32x128 8#32)) 0#32 X_arg2 X_arg8 k)
    = wpay (trip_k0_t1.sl.r i arg8 k0_h1 X_arg8 k)
      (rolled 88#32 (staged chunkV (tiles (loaded i arg2 k0_h1 X_arg2 k 1)) 11)) := rfl

set_option maxHeartbeats 2000000 in
/-- Head 6. -/
theorem piece_1_6 : k0_pay287 (trip_k0_t1.sl.r i arg8 k0_h1 X_arg8 k)
      (trip_k0_t1.sl.v3312 i arg2 k0_h1 laneV 8#32 (divsi laneV (broadcast S32x128 8#32)) 0#32 X_arg2 k)
    = wpay (trip_k0_t1.sl.r i arg8 k0_h1 X_arg8 k)
      (rolled 80#32 (staged chunkV (tiles (loaded i arg2 k0_h1 X_arg2 k 1)) 10)) := rfl

set_option maxHeartbeats 2000000 in
/-- Head 7. -/
theorem piece_1_7 : k0_pay288 (trip_k0_t1.sl.r i arg8 k0_h1 X_arg8 k)
      (trip_k0_t1.sl.v3313 i arg2 k0_h1 laneV 8#32 (divsi laneV (broadcast S32x128 8#32)) 0#32 X_arg2 k)
    = wpay (trip_k0_t1.sl.r i arg8 k0_h1 X_arg8 k)
      (rolled 72#32 (staged chunkV (tiles (loaded i arg2 k0_h1 X_arg2 k 1)) 9)) := rfl

set_option maxHeartbeats 2000000 in
/-- Head 8. -/
theorem piece_1_8 : k0_pay289 (trip_k0_t1.sl.r i arg8 k0_h1 X_arg8 k)
      (trip_k0_t1.sl.v3314 i arg2 k0_h1 laneV 8#32 (divsi laneV (broadcast S32x128 8#32)) 0#32 X_arg2 k)
    = wpay (trip_k0_t1.sl.r i arg8 k0_h1 X_arg8 k)
      (rolled 64#32 (staged chunkV (tiles (loaded i arg2 k0_h1 X_arg2 k 1)) 8)) := rfl

set_option maxHeartbeats 2000000 in
/-- Head 9. -/
theorem piece_1_9 : k0_pay290 (trip_k0_t1.sl.r i arg8 k0_h1 X_arg8 k)
      (trip_k0_t1.sl.v3315 i arg2 k0_h1 laneV 8#32 (divsi laneV (broadcast S32x128 8#32)) 0#32 X_arg2 k)
    = wpay (trip_k0_t1.sl.r i arg8 k0_h1 X_arg8 k)
      (rolled 56#32 (staged chunkV (tiles (loaded i arg2 k0_h1 X_arg2 k 1)) 7)) := rfl

set_option maxHeartbeats 2000000 in
/-- Head 10. -/
theorem piece_1_10 : k0_pay291 (trip_k0_t1.sl.r i arg8 k0_h1 X_arg8 k)
      (trip_k0_t1.sl.v3316 i arg2 k0_h1 laneV 8#32 (divsi laneV (broadcast S32x128 8#32)) 0#32 X_arg2 k)
    = wpay (trip_k0_t1.sl.r i arg8 k0_h1 X_arg8 k)
      (rolled 48#32 (staged chunkV (tiles (loaded i arg2 k0_h1 X_arg2 k 1)) 6)) := rfl

set_option maxHeartbeats 2000000 in
/-- Head 11. -/
theorem piece_1_11 : k0_pay292 (trip_k0_t1.sl.r i arg8 k0_h1 X_arg8 k)
      (trip_k0_t1.sl.r_48 i arg2 k0_h1 laneV 8#32 (divsi laneV (broadcast S32x128 8#32)) 0#32 X_arg2 k)
    = wpay (trip_k0_t1.sl.r i arg8 k0_h1 X_arg8 k)
      (rolled 40#32 (staged chunkV (tiles (loaded i arg2 k0_h1 X_arg2 k 1)) 5)) := rfl

set_option maxHeartbeats 2000000 in
/-- Head 12. -/
theorem piece_1_12 : k0_pay294 (trip_k0_t1.sl.r_54 i arg2 arg8 k0_h1 laneV 8#32 (divsi laneV (broadcast S32x128 8#32)) 0#32 X_arg2 X_arg8 k)
    = wpay (trip_k0_t1.sl.r i arg8 k0_h1 X_arg8 k)
      (rolled 32#32 (staged chunkV (tiles (loaded i arg2 k0_h1 X_arg2 k 1)) 4)) := rfl

set_option maxHeartbeats 2000000 in
/-- Head 13. -/
theorem piece_1_13 : k0_pay295 (trip_k0_t1.sl.r i arg8 k0_h1 X_arg8 k)
      (trip_k0_t1.sl.r_50 i arg2 k0_h1 laneV 8#32 (divsi laneV (broadcast S32x128 8#32)) 0#32 X_arg2 k)
    = wpay (trip_k0_t1.sl.r i arg8 k0_h1 X_arg8 k)
      (rolled 24#32 (staged chunkV (tiles (loaded i arg2 k0_h1 X_arg2 k 1)) 3)) := rfl

set_option maxHeartbeats 2000000 in
/-- Head 14. -/
theorem piece_1_14 : k0_pay296 (trip_k0_t1.sl.r i arg8 k0_h1 X_arg8 k)
      (trip_k0_t1.sl.r_51 i arg2 k0_h1 laneV 8#32 (divsi laneV (broadcast S32x128 8#32)) 0#32 X_arg2 k)
    = wpay (trip_k0_t1.sl.r i arg8 k0_h1 X_arg8 k)
      (rolled 16#32 (staged chunkV (tiles (loaded i arg2 k0_h1 X_arg2 k 1)) 2)) := rfl

set_option maxHeartbeats 2000000 in
/-- Head 15. -/
theorem piece_1_15 : k0_pay297 (trip_k0_t1.sl.r i arg8 k0_h1 X_arg8 k)
      (trip_k0_t1.sl.r_52 i arg2 k0_h1 laneV 8#32 (divsi laneV (broadcast S32x128 8#32)) 0#32 X_arg2 k)
    = wpay (trip_k0_t1.sl.r i arg8 k0_h1 X_arg8 k)
      (rolled 8#32 (staged chunkV (tiles (loaded i arg2 k0_h1 X_arg2 k 1)) 1)) := rfl

end Cert.KernelIdeal.Regroup
-- ==== Proof.Regroup2.lean ====
module
public import proofs.«01_k».proof.Proof.Regroup

/-! The sixteen stores of rows 64 to 95 of a trip of the weight's loop: each is a regrouped tile times the scales. -/

@[expose] public section

namespace Cert.KernelIdeal.Regroup
open Idealize.ShloMosaic Cert.KernelIdeal Cert.KernelIdeal.Gen
variable {F : FTy → Type} [FloatOps F]
variable (i : grid0.Coords) (arg2 : Memref sig .tc .vmem S1920x2048 .fp8e4m3)
  (arg8 : Memref sig .tc .vmem S16x128 .f32) (k0_h1 : k0_cond1 i = 1#1)
  (X_arg2 : BufTy.Contents (Elt F) arg2.view.ty) (X_arg8 : BufTy.Contents (Elt F) arg8.view.ty)
  (k : Fin k0_t1_loop.trips)

set_option maxRecDepth 16384

set_option maxHeartbeats 2000000 in
/-- Head 0. -/
theorem piece_2_0 : k0_pay422 (trip_k0_t1.sl.r_86 i arg2 arg8 k0_h1 laneV 8#32 (divsi laneV (broadcast S32x128 8#32)) 0#32 X_arg2 X_arg8 k)
    = wpay (trip_k0_t1.sl.r i arg8 k0_h1 X_arg8 k)
      (staged chunkV (tiles (loaded i arg2 k0_h1 X_arg2 k 2)) 0) := rfl

set_option maxHeartbeats 2000000 in
/-- Head 1. -/
theorem piece_2_1 : k0_pay423 (trip_k0_t1.sl.r i arg8 k0_h1 X_arg8 k)
      (trip_k0_t1.sl.r_71 i arg2 k0_h1 laneV 8#32 (divsi laneV (broadcast S32x128 8#32)) 0#32 X_arg2 k)
    = wpay (trip_k0_t1.sl.r i arg8 k0_h1 X_arg8 k)
      (rolled 120#32 (staged chunkV (tiles (loaded i arg2 k0_h1 X_arg2 k 2)) 15)) := rfl

set_option maxHeartbeats 2000000 in
/-- Head 2. -/
theorem piece_2_2 : k0_pay424 (trip_k0_t1.sl.r i arg8 k0_h1 X_arg8 k)
      (trip_k0_t1.sl.r_72 i arg2 k0_h1 laneV 8#32 (divsi laneV (broadcast S32x128 8#32)) 0#32 X_arg2 k)
    = wpay (trip_k0_t1.sl.r i arg8 k0_h1 X_arg8 k)
      (rolled 112#32 (staged chunkV (tiles (loaded i arg2 k0_h1 X_arg2 k 2)) 14)) := rfl

set_option maxHeartbeats 2000000 in
/-- Head 3. -/
theorem piece_2_3 : k0_pay425 (trip_k0_t1.sl.r i arg8 k0_h1 X_arg8 k)
      (trip_k0_t1.sl.r_73 i arg2 k0_h1 laneV 8#32 (divsi laneV (broadcast S32x128 8#32)) 0#32 X_arg2 k)
    = wpay (trip_k0_t1.sl.r i arg8 k0_h1 X_arg8 k)
      (rolled 104#32 (staged chunkV (tiles (loaded i arg2 k0_h1 X_arg2 k 2)) 13)) := rfl

set_option maxHeartbeats 2000000 in
/-- Head 4. -/
theorem piece_2_4 : k0_pay426 (trip_k0_t1.sl.r i arg8 k0_h1 X_arg8 k)
      (trip_k0_t1.sl.r_74 i arg2 k0_h1 laneV 8#32 (divsi laneV (broadcast S32x128 8#32)) 0#32 X_arg2 k)
    = wpay (trip_k0_t1.sl.r i arg8 k0_h1 X_arg8 k)
      (rolled 96#32 (staged chunkV (tiles (loaded i arg2 k0_h1 X_arg2 k 2)) 12)) := rfl

set_option maxHeartbeats 2000000 in
/-- Head 5. -/
theorem piece_2_5 : k0_pay427 (trip_k0_t1.sl.r i arg8 k0_h1 X_arg8 k)
      (trip_k0_t1.sl.r_75 i arg2 k0_h1 laneV 8#32 (divsi laneV (broadcast S32x128 8#32)) 0#32 X_arg2 k)
    = wpay (trip_k0_t1.sl.r i arg8 k0_h1 X_arg8 k)
      (rolled 88#32 (staged chunkV (tiles (loaded i arg2 k0_h1 X_arg2 k 2)) 11)) := rfl

set_option maxHeartbeats 2000000 in
/-- Head 6. -/
theorem piece_2_6 : k0_pay428 (trip_k0_t1.sl.r i arg8 k0_h1 X_arg8 k)
      (trip_k0_t1.sl.r_76 i arg2 k0_h1 laneV 8#32 (divsi laneV (broadcast S32x128 8#32)) 0#32 X_arg2 k)
    = wpay (trip_k0_t1.sl.r i arg8 k0_h1 X_arg8 k)
      (rolled 80#32 (staged chunkV (tiles (loaded i arg2 k0_h1 X_arg2 k 2)) 10)) := rfl

set_option maxHeartbeats 2000000 in
/-- Head 7. -/
theorem piece_2_7 : k0_pay430 (trip_k0_t1.sl.r_87 i arg2 arg8 k0_h1 laneV 8#32 (divsi laneV (broadcast S32x128 8#32)) 0#32 X_arg2 X_arg8 k)
    = wpay (trip_k0_t1.sl.r i arg8 k0_h1 X_arg8 k)
      (rolled 72#32 (staged chunkV (tiles (loaded i arg2 k0_h1 X_arg2 k 2)) 9)) := rfl

set_option maxHeartbeats 2000000 in
/-- Head 8. -/
theorem piece_2_8 : k0_pay431 (trip_k0_t1.sl.r i arg8 k0_h1 X_arg8 k)
      (trip_k0_t1.sl.r_78 i arg2 k0_h1 laneV 8#32 (divsi laneV (broadcast S32x128 8#32)) 0#32 X_arg2 k)
    = wpay (trip_k0_t1.sl.r i arg8 k0_h1 X_arg8 k)
      (rolled 64#32 (staged chunkV (tiles (loaded i arg2 k0_h1 X_arg2 k 2)) 8)) := rfl

set_option maxHeartbeats 2000000 in
/-- Head 9. -/
theorem piece_2_9 : k0_pay432 (trip_k0_t1.sl.r i arg8 k0_h1 X_arg8 k)
      (trip_k0_t1.sl.r_79 i arg2 k0_h1 laneV 8#32 (divsi laneV (broadcast S32x128 8#32)) 0#32 X_arg2 k)
    = wpay (trip_k0_t1.sl.r i arg8 k0_h1 X_arg8 k)
      (rolled 56#32 (staged chunkV (tiles (loaded i arg2 k0_h1 X_arg2 k 2)) 7)) := rfl

set_option maxHeartbeats 2000000 in
/-- Head 10. -/
theorem piece_2_10 : k0_pay433 (trip_k0_t1.sl.r i arg8 k0_h1 X_arg8 k)
      (trip_k0_t1.sl.r_80 i arg2 k0_h1 laneV 8#32 (divsi laneV (broadcast S32x128 8#32)) 0#32 X_arg2 k)
    = wpay (trip_k0_t1.sl.r i arg8 k0_h1 X_arg8 k)
      (rolled 48#32 (staged chunkV (tiles (loaded i arg2 k0_h1 X_arg2 k 2)) 6)) := rfl

set_option maxHeartbeats 2000000 in
/-- Head 11. -/
theorem piece_2_11 : k0_pay434 (trip_k0_t1.sl.r i arg8 k0_h1 X_arg8 k)
      (trip_k0_t1.sl.r_81 i arg2 k0_h1 laneV 8#32 (divsi laneV (broadcast S32x128 8#32)) 0#32 X_arg2 k)
    = wpay (trip_k0_t1.sl.r i arg8 k0_h1 X_arg8 k)
      (rolled 40#32 (staged chunkV (tiles (loaded i arg2 k0_h1 X_arg2 k 2)) 5)) := rfl

set_option maxHeartbeats 2000000 in
/-- Head 12. -/
theorem piece_2_12 : k0_pay435 (trip_k0_t1.sl.r i arg8 k0_h1 X_arg8 k)
      (trip_k0_t1.sl.r_82 i arg2 k0_h1 laneV 8#32 (divsi laneV (broadcast S32x128 8#32)) 0#32 X_arg2 k)
    = wpay (trip_k0_t1.sl.r i arg8 k0_h1 X_arg8 k)
      (rolled 32#32 (staged chunkV (tiles (loaded i arg2 k0_h1 X_arg2 k 2)) 4)) := rfl

set_option maxHeartbeats 2000000 in
/-- Head 13. -/
theorem piece_2_13 : k0_pay436 (trip_k0_t1.sl.r i arg8 k0_h1 X_arg8 k)
      (trip_k0_t1.sl.r_83 i arg2 k0_h1 laneV 8#32 (divsi laneV (broadcast S32x128 8#32)) 0#32 X_arg2 k)
    = wpay (trip_k0_t1.sl.r i arg8 k0_h1 X_arg8 k)
      (rolled 24#32 (staged chunkV (tiles (loaded i arg2 k0_h1 X_arg2 k 2)) 3)) := rfl

set_option maxHeartbeats 2000000 in
/-- Head 14. -/
theorem piece_2_14 : k0_pay438 (trip_k0_t1.sl.r i arg8 k0_h1 X_arg8 k)
      (trip_k0_t1.sl.r_88 i arg2 k0_h1 laneV 8#32 (divsi laneV (broadcast S32x128 8#32)) 0#32 X_arg2 k)
    = wpay (trip_k0_t1.sl.r i arg8 k0_h1 X_arg8 k)
      (rolled 16#32 (staged chunkV (tiles (loaded i arg2 k0_h1 X_arg2 k 2)) 2)) := rfl

set_option maxHeartbeats 2000000 in
/-- Head 15. -/
theorem piece_2_15 : k0_pay439 (trip_k0_t1.sl.r i arg8 k0_h1 X_arg8 k)
      (trip_k0_t1.sl.r_85 i arg2 k0_h1 laneV 8#32 (divsi laneV (broadcast S32x128 8#32)) 0#32 X_arg2 k)
    = wpay (trip_k0_t1.sl.r i arg8 k0_h1 X_arg8 k)
      (rolled 8#32 (staged chunkV (tiles (loaded i arg2 k0_h1 X_arg2 k 2)) 1)) := rfl

end Cert.KernelIdeal.Regroup
-- ==== Proof.Regroup3.lean ====
module
public import proofs.«01_k».proof.Proof.Regroup

/-! The sixteen stores of rows 96 to 127 of a trip of the weight's loop: each is a regrouped tile times the scales. -/

@[expose] public section

namespace Cert.KernelIdeal.Regroup
open Idealize.ShloMosaic Cert.KernelIdeal Cert.KernelIdeal.Gen
variable {F : FTy → Type} [FloatOps F]
variable (i : grid0.Coords) (arg2 : Memref sig .tc .vmem S1920x2048 .fp8e4m3)
  (arg8 : Memref sig .tc .vmem S16x128 .f32) (k0_h1 : k0_cond1 i = 1#1)
  (X_arg2 : BufTy.Contents (Elt F) arg2.view.ty) (X_arg8 : BufTy.Contents (Elt F) arg8.view.ty)
  (k : Fin k0_t1_loop.trips)

set_option maxRecDepth 16384

set_option maxHeartbeats 2000000 in
/-- Head 0. -/
theorem piece_3_0 : k0_pay563 (trip_k0_t1.sl.r i arg8 k0_h1 X_arg8 k)
      (trip_k0_t1.sl.v4801 i arg2 k0_h1 laneV 8#32 (divsi laneV (broadcast S32x128 8#32)) 0#32 X_arg2 k)
    = wpay (trip_k0_t1.sl.r i arg8 k0_h1 X_arg8 k)
      (staged chunkV (tiles (loaded i arg2 k0_h1 X_arg2 k 3)) 0) := rfl

set_option maxHeartbeats 2000000 in
/-- Head 1. -/
theorem piece_3_1 : k0_pay564 (trip_k0_t1.sl.r i arg8 k0_h1 X_arg8 k)
      (trip_k0_t1.sl.v4788 i arg2 k0_h1 laneV 8#32 (divsi laneV (broadcast S32x128 8#32)) 0#32 X_arg2 k)
      (trip_k0_t1.sl.v4796 i arg2 k0_h1 laneV 8#32 (divsi laneV (broadcast S32x128 8#32)) 0#32 X_arg2 k)
      (trip_k0_t1.sl.v2535 laneV 8#32 (divsi laneV (broadcast S32x128 8#32)) 0#32)
    = wpay (trip_k0_t1.sl.r i arg8 k0_h1 X_arg8 k)
      (rolled 120#32 (staged chunkV (tiles (loaded i arg2 k0_h1 X_arg2 k 3)) 15)) := rfl

set_option maxHeartbeats 2000000 in
/-- Head 2. -/
theorem piece_3_2 : k0_pay566 (trip_k0_t1.sl.r_119 i arg2 arg8 k0_h1 laneV 8#32 (divsi laneV (broadcast S32x128 8#32)) 0#32 X_arg2 X_arg8 k)
    = wpay (trip_k0_t1.sl.r i arg8 k0_h1 X_arg8 k)
      (rolled 112#32 (staged chunkV (tiles (loaded i arg2 k0_h1 X_arg2 k 3)) 14)) := rfl

set_option maxHeartbeats 2000000 in
/-- Head 3. -/
theorem piece_3_3 : k0_pay567 (trip_k0_t1.sl.r i arg8 k0_h1 X_arg8 k)
      (trip_k0_t1.sl.r_106 i arg2 k0_h1 laneV 8#32 (divsi laneV (broadcast S32x128 8#32)) 0#32 X_arg2 k)
    = wpay (trip_k0_t1.sl.r i arg8 k0_h1 X_arg8 k)
      (rolled 104#32 (staged chunkV (tiles (loaded i arg2 k0_h1 X_arg2 k 3)) 13)) := rfl

set_option maxHeartbeats 2000000 in
/-- Head 4. -/
theorem piece_3_4 : k0_pay568 (trip_k0_t1.sl.r i arg8 k0_h1 X_arg8 k)
      (trip_k0_t1.sl.r_107 i arg2 k0_h1 laneV 8#32 (divsi laneV (broadcast S32x128 8#32)) 0#32 X_arg2 k)
    = wpay (trip_k0_t1.sl.r i arg8 k0_h1 X_arg8 k)
      (rolled 96#32 (staged chunkV (tiles (loaded i arg2 k0_h1 X_arg2 k 3)) 12)) := rfl

set_option maxHeartbeats 2000000 in
/-- Head 5. -/
theorem piece_3_5 : k0_pay569 (trip_k0_t1.sl.r i arg8 k0_h1 X_arg8 k)
      (trip_k0_t1.sl.r_108 i arg2 k0_h1 laneV 8#32 (divsi laneV (broadcast S32x128 8#32)) 0#32 X_arg2 k)
    = wpay (trip_k0_t1.sl.r i arg8 k0_h1 X_arg8 k)
      (rolled 88#32 (staged chunkV (tiles (loaded i arg2 k0_h1 X_arg2 k 3)) 11)) := rfl

set_option maxHeartbeats 2000000 in
/-- Head 6. -/
theorem piece_3_6 : k0_pay570 (trip_k0_t1.sl.r i arg8 k0_h1 X_arg8 k)
      (trip_k0_t1.sl.r_109 i arg2 k0_h1 laneV 8#32 (divsi laneV (broadcast S32x128 8#32)) 0#32 X_arg2 k)
    = wpay (trip_k0_t1.sl.r i arg8 k0_h1 X_arg8 k)
      (rolled 80#32 (staged chunkV (tiles (loaded i arg2 k0_h1 X_arg2 k 3)) 10)) := rfl

set_option maxHeartbeats 2000000 in
/-- Head 7. -/
theorem piece_3_7 : k0_pay571 (trip_k0_t1.sl.r i arg8 k0_h1 X_arg8 k)
      (trip_k0_t1.sl.r_110 i arg2 k0_h1 laneV 8#32 (divsi laneV (broadcast S32x128 8#32)) 0#32 X_arg2 k)
    = wpay (trip_k0_t1.sl.r i arg8 k0_h1 X_arg8 k)
      (rolled 72#32 (staged chunkV (tiles (loaded i arg2 k0_h1 X_arg2 k 3)) 9)) := rfl

set_option maxHeartbeats 2000000 in
/-- Head 8. -/
theorem piece_3_8 : k0_pay572 (trip_k0_t1.sl.r i arg8 k0_h1 X_arg8 k)
      (trip_k0_t1.sl.r_111 i arg2 k0_h1 laneV 8#32 (divsi laneV (broadcast S32x128 8#32)) 0#32 X_arg2 k)
    = wpay (trip_k0_t1.sl.r i arg8 k0_h1 X_arg8 k)
      (rolled 64#32 (staged chunkV (tiles (loaded i arg2 k0_h1 X_arg2 k 3)) 8)) := rfl

set_option maxHeartbeats 2000000 in
/-- Head 9. -/
theorem piece_3_9 : k0_pay575 (trip_k0_t1.sl.r_120 i arg2 k0_h1 laneV 8#32 (divsi laneV (broadcast S32x128 8#32)) 0#32 X_arg2 k)
      (trip_k0_t1.sl.r_121 i arg8 k0_h1 X_arg8 k)
    = wpay (trip_k0_t1.sl.r i arg8 k0_h1 X_arg8 k)
      (rolled 56#32 (staged chunkV (tiles (loaded i arg2 k0_h1 X_arg2 k 3)) 7)) := rfl

set_option maxHeartbeats 2000000 in
/-- Head 10. -/
theorem piece_3_10 : k0_pay576 (trip_k0_t1.sl.r i arg8 k0_h1 X_arg8 k)
      (trip_k0_t1.sl.r_113 i arg2 k0_h1 laneV 8#32 (divsi laneV (broadcast S32x128 8#32)) 0#32 X_arg2 k)
    = wpay (trip_k0_t1.sl.r i arg8 k0_h1 X_arg8 k)
      (rolled 48#32 (staged chunkV (tiles (loaded i arg2 k0_h1 X_arg2 k 3)) 6)) := rfl

set_option maxHeartbeats 2000000 in
/-- Head 11. -/
theorem piece_3_11 : k0_pay577 (trip_k0_t1.sl.r i arg8 k0_h1 X_arg8 k)
      (trip_k0_t1.sl.r_114 i arg2 k0_h1 laneV 8#32 (divsi laneV (broadcast S32x128 8#32)) 0#32 X_arg2 k)
    = wpay (trip_k0_t1.sl.r i arg8 k0_h1 X_arg8 k)
      (rolled 40#32 (staged chunkV (tiles (loaded i arg2 k0_h1 X_arg2 k 3)) 5)) := rfl

set_option maxHeartbeats 2000000 in
/-- Head 12. -/
theorem piece_3_12 : k0_pay578 (trip_k0_t1.sl.r i arg8 k0_h1 X_arg8 k)
      (trip_k0_t1.sl.r_115 i arg2 k0_h1 laneV 8#32 (divsi laneV (broadcast S32x128 8#32)) 0#32 X_arg2 k)
    = wpay (trip_k0_t1.sl.r i arg8 k0_h1 X_arg8 k)
      (rolled 32#32 (staged chunkV (tiles (loaded i arg2 k0_h1 X_arg2 k 3)) 4)) := rfl

set_option maxHeartbeats 2000000 in
/-- Head 13. -/
theorem piece_3_13 : k0_pay579 (trip_k0_t1.sl.r i arg8 k0_h1 X_arg8 k)
      (trip_k0_t1.sl.r_116 i arg2 k0_h1 laneV 8#32 (divsi laneV (broadcast S32x128 8#32)) 0#32 X_arg2 k)
    = wpay (trip_k0_t1.sl.r i arg8 k0_h1 X_arg8 k)
      (rolled 24#32 (staged chunkV (tiles (loaded i arg2 k0_h1 X_arg2 k 3)) 3)) := rfl

set_option maxHeartbeats 2000000 in
/-- Head 14. -/
theorem piece_3_14 : k0_pay580 (trip_k0_t1.sl.r i arg8 k0_h1 X_arg8 k)
      (trip_k0_t1.sl.r_117 i arg2 k0_h1 laneV 8#32 (divsi laneV (broadcast S32x128 8#32)) 0#32 X_arg2 k)
    = wpay (trip_k0_t1.sl.r i arg8 k0_h1 X_arg8 k)
      (rolled 16#32 (staged chunkV (tiles (loaded i arg2 k0_h1 X_arg2 k 3)) 2)) := rfl

set_option maxHeartbeats 2000000 in
/-- Head 15. -/
theorem piece_3_15 : trip_k0_t1.sl.r_122 i arg2 arg8 k0_h1 laneV 8#32 (divsi laneV (broadcast S32x128 8#32)) 0#32 X_arg2 X_arg8 k
    = wpay (trip_k0_t1.sl.r i arg8 k0_h1 X_arg8 k)
      (rolled 8#32 (staged chunkV (tiles (loaded i arg2 k0_h1 X_arg2 k 3)) 1)) := rfl

end Cert.KernelIdeal.Regroup
-- ==== Proof.Weights.lean ====
module
public import proofs.«01_k».proof.Proof.Tiles
public import proofs.«01_k».proof.Proof.Regroup0
public import proofs.«01_k».proof.Proof.Regroup1
public import proofs.«01_k».proof.Proof.Regroup2
public import proofs.«01_k».proof.Proof.Regroup3

/-! The weight as the kernel prepares it: in each trip of the loop the stores agree with one array, the weight's
columns regrouped by head times the scales of their block. -/

@[expose] public section

namespace Cert.KernelIdeal.Regroup
open Idealize.ShloMosaic Cert.KernelIdeal Cert.KernelIdeal.Gen Cert.KernelIdeal.Quant
variable {F : FTy → Type} [FloatOps F]

/-- The weight's columns regrouped by head: column `128 h + c` is column `16 c + h`. -/
def wgt {e : EltTy} (x1 : Vec F S1920x2048 e) : Vec F S1920x2048 e := fun y =>
  x1 (ix2 (n0 := 1920) (n1 := 2048) (y 0) ⟨16 * ((y 1).val % 128) + (y 1).val / 128, by
    have : (y 1).val < 2048 := (y 1).isLt
    omega⟩)

/-- The scale of each entry of the regrouped weight, from the scales spread over the lanes. -/
def wscl (ws : Vec F S16x128 .f32) : Vec F S1920x2048 .f32 := fun y =>
  ws (ix2 (n0 := 16) (n1 := 128) ⟨(y 0).val / 128, by have : (y 0).val < 1920 := (y 0).isLt; omega⟩
    ⟨(y 1).val % 128, by omega⟩)

/-- The prepared weight. -/
noncomputable def W (x1 : Vec F S1920x2048 .fp8e4m3) (ws : Vec F S16x128 .f32) : FVec F S1920x2048 .bf16 :=
  mulf (truncf .bf16 (extf .f32 (wgt x1) bitsLt_fp8e4m3_f32) bitsLt_bf16_f32)
    (truncf .bf16 (wscl ws) bitsLt_bf16_f32)

/-- Rounding to bf16 acts entry by entry. -/
theorem truncf_at {s t : Shape} {a : FVec F s .f32} {b : FVec F t .f32} {i : s.Idx} {j : t.Idx} (h : a i = b j) :
    (truncf .bf16 a bitsLt_bf16_f32 : FVec F s .bf16) i = (truncf .bf16 b bitsLt_bf16_f32 : FVec F t .bf16) j := by
  unfold truncf
  rw [h]

/-- Widening to f32 acts entry by entry. -/
theorem extf_at {s t : Shape} {a : FVec F s .fp8e4m3} {b : FVec F t .fp8e4m3} {i : s.Idx} {j : t.Idx} (h : a i = b j) :
    (extf .f32 a bitsLt_fp8e4m3_f32 : FVec F s .f32) i = (extf .f32 b bitsLt_fp8e4m3_f32 : FVec F t .f32) j := by
  unfold extf
  rw [h]

/-- Two lists of stores agreeing with an array, one after the other. -/
theorem piecesOf_append {s : Shape} {e : EltTy} {G : Vec F s e} : ∀ {L L' : List (View.Piece (Elt F) s e)},
    View.PiecesOf G L → View.PiecesOf G L' → View.PiecesOf G (L ++ L')
  | [], _, _, h' => h'
  | _ :: _, _, h, h' => ⟨h.1, piecesOf_append h.2 h'⟩

theorem trips_lt (k : Fin k0_t1_loop.trips) : k.val < 15 := Nat.lt_of_lt_of_le k.isLt k0_t1_abs.2.1

theorem off0_row (k : Fin k0_t1_loop.trips) (r : Fin 4) :
    k0_off2 k (BitVec.ofNat 32 (32 * r.val)) 0 = 128 * k.val + 32 * r.val := by
  revert k r; decide +kernel

theorem off1_row (k : Fin k0_t1_loop.trips) (r : Fin 4) :
    k0_off3 k (BitVec.ofNat 32 (32 * r.val)) 0 = 128 * k.val + 32 * r.val := by
  revert k r; decide +kernel

theorem off2_row (k : Fin k0_t1_loop.trips) (r : Fin 4) :
    k0_off4 k (BitVec.ofNat 32 (32 * r.val)) 0 = 128 * k.val + 32 * r.val := by
  revert k r; decide +kernel

theorem off3_row (k : Fin k0_t1_loop.trips) (r : Fin 4) :
    k0_off5 k (BitVec.ofNat 32 (32 * r.val)) 0 = 128 * k.val + 32 * r.val := by
  revert k r; decide +kernel

theorem off4_row (k : Fin k0_t1_loop.trips) (r : Fin 4) :
    k0_off6 k (BitVec.ofNat 32 (32 * r.val)) 0 = 128 * k.val + 32 * r.val := by
  revert k r; decide +kernel

theorem off5_row (k : Fin k0_t1_loop.trips) (r : Fin 4) :
    k0_off7 k (BitVec.ofNat 32 (32 * r.val)) 0 = 128 * k.val + 32 * r.val := by
  revert k r; decide +kernel

theorem off6_row (k : Fin k0_t1_loop.trips) (r : Fin 4) :
    k0_off8 k (BitVec.ofNat 32 (32 * r.val)) 0 = 128 * k.val + 32 * r.val := by
  revert k r; decide +kernel

theorem off7_row (k : Fin k0_t1_loop.trips) (r : Fin 4) :
    k0_off9 k (BitVec.ofNat 32 (32 * r.val)) 0 = 128 * k.val + 32 * r.val := by
  revert k r; decide +kernel

theorem off8_row (k : Fin k0_t1_loop.trips) (r : Fin 4) :
    k0_off10 k (BitVec.ofNat 32 (32 * r.val)) 0 = 128 * k.val + 32 * r.val := by
  revert k r; decide +kernel

theorem off9_row (k : Fin k0_t1_loop.trips) (r : Fin 4) :
    k0_off11 k (BitVec.ofNat 32 (32 * r.val)) 0 = 128 * k.val + 32 * r.val := by
  revert k r; decide +kernel

theorem off10_row (k : Fin k0_t1_loop.trips) (r : Fin 4) :
    k0_off12 k (BitVec.ofNat 32 (32 * r.val)) 0 = 128 * k.val + 32 * r.val := by
  revert k r; decide +kernel

theorem off11_row (k : Fin k0_t1_loop.trips) (r : Fin 4) :
    k0_off13 k (BitVec.ofNat 32 (32 * r.val)) 0 = 128 * k.val + 32 * r.val := by
  revert k r; decide +kernel

theorem off12_row (k : Fin k0_t1_loop.trips) (r : Fin 4) :
    k0_off14 k (BitVec.ofNat 32 (32 * r.val)) 0 = 128 * k.val + 32 * r.val := by
  revert k r; decide +kernel

theorem off13_row (k : Fin k0_t1_loop.trips) (r : Fin 4) :
    k0_off15 k (BitVec.ofNat 32 (32 * r.val)) 0 = 128 * k.val + 32 * r.val := by
  revert k r; decide +kernel

theorem off14_row (k : Fin k0_t1_loop.trips) (r : Fin 4) :
    k0_off16 k (BitVec.ofNat 32 (32 * r.val)) 0 = 128 * k.val + 32 * r.val := by
  revert k r; decide +kernel

theorem off15_row (k : Fin k0_t1_loop.trips) (r : Fin 4) :
    k0_off17 k (BitVec.ofNat 32 (32 * r.val)) 0 = 128 * k.val + 32 * r.val := by
  revert k r; decide +kernel

theorem off_ws (k : Fin k0_t1_loop.trips) : k0_off1 k 0 = k.val := by
  revert k; decide +kernel

/-- A tile of 32 rows loaded from the weight at an index. -/
theorem load_tile (arg2 : Memref sig .tc .vmem S1920x2048 .fp8e4m3) (harg2 : arg2.IsWhole)
    (x1 : Vec F S1920x2048 .fp8e4m3) (off : Fin 2 → ℕ) (inb) (a b : ℕ) (h0 : off 0 = a) (h1 : off 1 = b)
    (r' : Fin 32) (l : Fin 128) (ha : a + r'.val < 1920) (hb : b + l.val < 2048) :
    (View.readAt (Elt F) arg2.view (Rect.unit (s := S1920x2048) off S32x128.size inb).toLoadRect (harg2.unread x1) :
      Vec F S32x128 .fp8e4m3) (ix2 r' l) = x1 (ix2 (n0 := 1920) (n1 := 2048) ⟨a + r'.val, ha⟩ ⟨b + l.val, hb⟩) := by
  rw [View.readAt_eq_ld, harg2.read_unread]
  refine (View.ld_unit_apply_of x1 off S32x128.size inb (ix2 r' l)
    (ix2 (n0 := 1920) (n1 := 2048) ⟨a + r'.val, ha⟩ ⟨b + l.val, hb⟩) ?_).trans rfl
  intro c
  match c with
  | ⟨0, _⟩ => show a + r'.val = off 0 + r'.val; rw [h0]
  | ⟨1, _⟩ => show b + l.val = off 1 + l.val; rw [h1]

/-- The sixteen tiles loaded in a part of a trip at an index. -/
theorem loaded_apply (i : grid0.Coords) (arg2 : Memref sig .tc .vmem S1920x2048 .fp8e4m3) (harg2 : arg2.IsWhole)
    (k0_h1 : k0_cond1 i = 1#1) (x1 : Vec F S1920x2048 .fp8e4m3) (k : Fin k0_t1_loop.trips) (r : Fin 4) (nb : Fin 16)
    (r' : Fin 32) (l : Fin 128) (ha : 128 * k.val + 32 * r.val + r'.val < 1920) (hb : 128 * nb.val + l.val < 2048) :
    loaded i arg2 k0_h1 (harg2.unread x1) k r nb (ix2 r' l)
      = x1 (ix2 (n0 := 1920) (n1 := 2048) ⟨128 * k.val + 32 * r.val + r'.val, ha⟩ ⟨128 * nb.val + l.val, hb⟩) := by
  fin_cases nb
  · exact load_tile arg2 harg2 x1 _ _ _ 0 (off0_row k r) rfl r' l _ _
  · exact load_tile arg2 harg2 x1 _ _ _ 128 (off1_row k r) rfl r' l _ _
  · exact load_tile arg2 harg2 x1 _ _ _ 256 (off2_row k r) rfl r' l _ _
  · exact load_tile arg2 harg2 x1 _ _ _ 384 (off3_row k r) rfl r' l _ _
  · exact load_tile arg2 harg2 x1 _ _ _ 512 (off4_row k r) rfl r' l _ _
  · exact load_tile arg2 harg2 x1 _ _ _ 640 (off5_row k r) rfl r' l _ _
  · exact load_tile arg2 harg2 x1 _ _ _ 768 (off6_row k r) rfl r' l _ _
  · exact load_tile arg2 harg2 x1 _ _ _ 896 (off7_row k r) rfl r' l _ _
  · exact load_tile arg2 harg2 x1 _ _ _ 1024 (off8_row k r) rfl r' l _ _
  · exact load_tile arg2 harg2 x1 _ _ _ 1152 (off9_row k r) rfl r' l _ _
  · exact load_tile arg2 harg2 x1 _ _ _ 1280 (off10_row k r) rfl r' l _ _
  · exact load_tile arg2 harg2 x1 _ _ _ 1408 (off11_row k r) rfl r' l _ _
  · exact load_tile arg2 harg2 x1 _ _ _ 1536 (off12_row k r) rfl r' l _ _
  · exact load_tile arg2 harg2 x1 _ _ _ 1664 (off13_row k r) rfl r' l _ _
  · exact load_tile arg2 harg2 x1 _ _ _ 1792 (off14_row k r) rfl r' l _ _
  · exact load_tile arg2 harg2 x1 _ _ _ 1920 (off15_row k r) rfl r' l _ _

/-- The scales of a trip, spread over the lanes, at an index. -/
theorem sv_apply (i : grid0.Coords) (arg8 : Memref sig .tc .vmem S16x128 .f32) (k0_h1 : k0_cond1 i = 1#1)
    (X_arg8 : BufTy.Contents (Elt F) arg8.view.ty) (k : Fin k0_t1_loop.trips) (l : Fin 128) (hk : k.val < 16) :
    trip_k0_t1.sl.r i arg8 k0_h1 X_arg8 k (ix2 (n0 := 1) (n1 := 128) 0 l)
      = (truncf .bf16 (View.read (Elt F) arg8.view X_arg8 : Vec F S16x128 .f32) bitsLt_bf16_f32 : FVec F S16x128 .bf16)
          (ix2 (n0 := 16) (n1 := 128) ⟨k.val, hk⟩ l) := by
  unfold trip_k0_t1.sl.r k0_pay2
  refine truncf_at (s := S1x128) (t := S16x128) ?_
  rw [View.readAt_eq_ld]
  refine (View.ld_unit_apply_of (S := S16x128) (View.read (Elt F) arg8.view X_arg8) _ S1x128.size _ (ix2 (n0 := 1) (n1 := 128) 0 l)
    (ix2 (n0 := 16) (n1 := 128) ⟨k.val, hk⟩ l) ?_).trans rfl
  intro c
  match c with
  | ⟨0, _⟩ => show k.val = k0_off1 k 0 + 0; rw [off_ws]; rfl
  | ⟨1, _⟩ => show l.val = 0 + l.val; omega

/-- A store of a regrouped tile times its scales agrees with the prepared weight. -/
theorem w_tile (x1 : Vec F S1920x2048 .fp8e4m3) (ws : Vec F S16x128 .f32) (T : Fin 16 → Vec F S32x128 .fp8e4m3)
    (sv : FVec F S1x128 .bf16) (k : Fin k0_t1_loop.trips) (r : Fin 4) (h : Fin 16)
    (hT : ∀ (nb : Fin 16) (r' : Fin 32) (l : Fin 128) (ha : 128 * k.val + 32 * r.val + r'.val < 1920)
      (hb : 128 * nb.val + l.val < 2048), T nb (ix2 r' l)
        = x1 (ix2 (n0 := 1920) (n1 := 2048) ⟨128 * k.val + 32 * r.val + r'.val, ha⟩ ⟨128 * nb.val + l.val, hb⟩))
    (hsv : ∀ (l : Fin 128) (hk : k.val < 16), sv (ix2 (n0 := 1) (n1 := 128) 0 l)
      = (truncf .bf16 ws bitsLt_bf16_f32 : FVec F S16x128 .bf16) (ix2 (n0 := 16) (n1 := 128) ⟨k.val, hk⟩ l))
    (x : FVec F S32x128 .f32) (P : FVec F S32x128 .bf16) (hP : P = wpay sv x)
    (hx : ∀ (r' : Fin 32) (l : Fin 128), x (ix2 r' l)
      = tiles T ⟨l.val / 8, by omega⟩ (ix2 r' ⟨l.val % 8 * 16 + h.val, by omega⟩))
    (off : Fin 2 → ℕ) {inb} (h0 : off 0 = 128 * k.val + 32 * r.val) (h1 : off 1 = 128 * h.val) (z : S32x128.Idx) :
    P z = W x1 ws ((Rect.unit (s := S1920x2048) off S32x128.size inb).emb z) := by
  subst hP
  have hk := trips_lt k
  have e0 := ValueKit.rect_emb_unit_val (s := S1920x2048) off S32x128.size inb z 0
  have e1 := ValueKit.rect_emb_unit_val (s := S1920x2048) off S32x128.size inb z 1
  generalize ((Rect.unit (s := S1920x2048) off S32x128.size inb).emb z) = y at e0 e1 ⊢
  obtain ⟨r', l, rfl⟩ : ∃ (r' : Fin 32) (l : Fin 128), z = ix2 r' l := ⟨z 0, z 1, eq_ix2 z⟩
  have a0 : (y 0).val = 128 * k.val + 32 * r.val + r'.val := by rw [e0, h0]; rfl
  have a1 : (y 1).val = 128 * h.val + l.val := by rw [e1, h1]; rfl
  unfold wpay
  rw [shapeCast_self]
  refine congrArg₂ (FloatOps.mulf (F := F) (φ := .bf16)) ?_ ?_
  · refine truncf_at (s := S32x128) (t := S1920x2048) ?_
    rw [hx]
    refine extf_at (s := S32x128) (t := S1920x2048) ?_
    have hb : 128 * (l.val / 8) + (l.val % 8 * 16 + h.val) < 2048 := by omega
    rw [hT ⟨l.val / 8, by omega⟩ r' ⟨l.val % 8 * 16 + h.val, by omega⟩ (by omega) hb]
    unfold wgt
    refine congrArg x1 ?_
    congr 1
    · exact Fin.ext a0.symm
    · refine Fin.ext ?_
      show 128 * (l.val / 8) + (l.val % 8 * 16 + h.val) = 16 * ((y 1).val % 128) + (y 1).val / 128
      omega
  · have : broadcastTo S32x128 sv broadcasts_S1x128_S32x128 (ix2 r' l) = sv (ix2 (n0 := 1) (n1 := 128) 0 l) := by
      pointwise
    rw [this, hsv l (by omega)]
    refine truncf_at (s := S16x128) (t := S1920x2048) ?_
    unfold wscl
    refine congrArg ws ?_
    congr 1
    · refine Fin.ext ?_
      show k.val = (y 0).val / 128
      omega
    · refine Fin.ext ?_
      show l.val = (y 1).val % 128
      omega

variable (c : Dev nD) (i : grid0.Coords)
  (arg1 : Memref sig .tc .vmem S512x1920 .bf16) (harg1 : arg1.IsWhole)
  (arg2 : Memref sig .tc .vmem S1920x2048 .fp8e4m3) (harg2 : arg2.IsWhole)
  (arg3 : Memref sig .tc .vmem S15x16 .f32) (harg3 : arg3.IsWhole)
  (arg4 : Memref sig .tc .vmem S512x16x128 .bf16) (harg4 : arg4.IsWhole)
  (arg5 : Memref sig .tc .vmem S512x1920 .fp8e4m3) (harg5 : arg5.IsWhole)
  (arg6 : Memref sig .tc .vmem S512x15 .f32) (harg6 : arg6.IsWhole)
  (arg7 : Memref sig .tc .vmem S1920x2048 .bf16) (harg7 : arg7.IsWhole)
  (arg8 : Memref sig .tc .vmem S16x128 .f32) (harg8 : arg8.IsWhole)
  (arg9 : Memref sig .tc .vmem S512x1920 .bf16) (harg9 : arg9.IsWhole)
  (k0_h1 : k0_cond1 i = 1#1) (x1 : Vec F S1920x2048 .fp8e4m3) (X_arg8 : BufTy.Contents (Elt F) arg8.view.ty)

/-- The 64 stores of a trip agree with the prepared weight. -/
theorem trip_pieces (ws : Vec F S16x128 .f32) (hws : ws = View.read (Elt F) arg8.view X_arg8)
    (k : Fin k0_t1_loop.trips) : View.PiecesOf (W x1 ws : Vec F S1920x2048 .bf16)
    (tripL_k0_t1 Variants.none c none i arg1 harg1 arg2 harg2 arg3 harg3 arg4 harg4 arg5 harg5 arg6 harg6 arg7 harg7
      arg8 harg8 arg9 harg9 k0_h1 laneV 8#32 (divsi laneV (broadcast S32x128 8#32)) 0#32 (harg2.unread x1) X_arg8 k) := by
  have hT (r : Fin 4) (nb : Fin 16) (r' : Fin 32) (l : Fin 128) (ha) (hb) :=
    loaded_apply i arg2 harg2 k0_h1 x1 k r nb r' l ha hb
  have hsv (l : Fin 128) (hk : k.val < 16) := sv_apply i arg8 k0_h1 X_arg8 k l hk
  rw [← hws] at hsv
  unfold tripL_k0_t1 trip_k0_t1
  exact
  piecesOf_cons (w_tile (inb := k0_off17_inb i k k0_h1 3) x1 ws _ _ k 3 15 (hT 3) hsv _ _ (piece_3_15 i arg2 arg8 k0_h1 (harg2.unread x1) X_arg8 k)
    (head_succ 15 1 8#32 rfl rfl _) _ (off15_row k 3) rfl) <|
  piecesOf_cons (w_tile (inb := k0_off16_inb i k k0_h1 3) x1 ws _ _ k 3 14 (hT 3) hsv _ _ (piece_3_14 i arg2 arg8 k0_h1 (harg2.unread x1) X_arg8 k)
    (head_succ 14 2 16#32 rfl rfl _) _ (off14_row k 3) rfl) <|
  piecesOf_cons (w_tile (inb := k0_off15_inb i k k0_h1 3) x1 ws _ _ k 3 13 (hT 3) hsv _ _ (piece_3_13 i arg2 arg8 k0_h1 (harg2.unread x1) X_arg8 k)
    (head_succ 13 3 24#32 rfl rfl _) _ (off13_row k 3) rfl) <|
  piecesOf_cons (w_tile (inb := k0_off14_inb i k k0_h1 3) x1 ws _ _ k 3 12 (hT 3) hsv _ _ (piece_3_12 i arg2 arg8 k0_h1 (harg2.unread x1) X_arg8 k)
    (head_succ 12 4 32#32 rfl rfl _) _ (off12_row k 3) rfl) <|
  piecesOf_cons (w_tile (inb := k0_off13_inb i k k0_h1 3) x1 ws _ _ k 3 11 (hT 3) hsv _ _ (piece_3_11 i arg2 arg8 k0_h1 (harg2.unread x1) X_arg8 k)
    (head_succ 11 5 40#32 rfl rfl _) _ (off11_row k 3) rfl) <|
  piecesOf_cons (w_tile (inb := k0_off12_inb i k k0_h1 3) x1 ws _ _ k 3 10 (hT 3) hsv _ _ (piece_3_10 i arg2 arg8 k0_h1 (harg2.unread x1) X_arg8 k)
    (head_succ 10 6 48#32 rfl rfl _) _ (off10_row k 3) rfl) <|
  piecesOf_cons (w_tile (inb := k0_off11_inb i k k0_h1 3) x1 ws _ _ k 3 9 (hT 3) hsv _ _ (piece_3_9 i arg2 arg8 k0_h1 (harg2.unread x1) X_arg8 k)
    (head_succ 9 7 56#32 rfl rfl _) _ (off9_row k 3) rfl) <|
  piecesOf_cons (w_tile (inb := k0_off10_inb i k k0_h1 3) x1 ws _ _ k 3 8 (hT 3) hsv _ _ (piece_3_8 i arg2 arg8 k0_h1 (harg2.unread x1) X_arg8 k)
    (head_succ 8 8 64#32 rfl rfl _) _ (off8_row k 3) rfl) <|
  piecesOf_cons (w_tile (inb := k0_off9_inb i k k0_h1 3) x1 ws _ _ k 3 7 (hT 3) hsv _ _ (piece_3_7 i arg2 arg8 k0_h1 (harg2.unread x1) X_arg8 k)
    (head_succ 7 9 72#32 rfl rfl _) _ (off7_row k 3) rfl) <|
  piecesOf_cons (w_tile (inb := k0_off8_inb i k k0_h1 3) x1 ws _ _ k 3 6 (hT 3) hsv _ _ (piece_3_6 i arg2 arg8 k0_h1 (harg2.unread x1) X_arg8 k)
    (head_succ 6 10 80#32 rfl rfl _) _ (off6_row k 3) rfl) <|
  piecesOf_cons (w_tile (inb := k0_off7_inb i k k0_h1 3) x1 ws _ _ k 3 5 (hT 3) hsv _ _ (piece_3_5 i arg2 arg8 k0_h1 (harg2.unread x1) X_arg8 k)
    (head_succ 5 11 88#32 rfl rfl _) _ (off5_row k 3) rfl) <|
  piecesOf_cons (w_tile (inb := k0_off6_inb i k k0_h1 3) x1 ws _ _ k 3 4 (hT 3) hsv _ _ (piece_3_4 i arg2 arg8 k0_h1 (harg2.unread x1) X_arg8 k)
    (head_succ 4 12 96#32 rfl rfl _) _ (off4_row k 3) rfl) <|
  piecesOf_cons (w_tile (inb := k0_off5_inb i k k0_h1 3) x1 ws _ _ k 3 3 (hT 3) hsv _ _ (piece_3_3 i arg2 arg8 k0_h1 (harg2.unread x1) X_arg8 k)
    (head_succ 3 13 104#32 rfl rfl _) _ (off3_row k 3) rfl) <|
  piecesOf_cons (w_tile (inb := k0_off4_inb i k k0_h1 3) x1 ws _ _ k 3 2 (hT 3) hsv _ _ (piece_3_2 i arg2 arg8 k0_h1 (harg2.unread x1) X_arg8 k)
    (head_succ 2 14 112#32 rfl rfl _) _ (off2_row k 3) rfl) <|
  piecesOf_cons (w_tile (inb := k0_off3_inb i k k0_h1 3) x1 ws _ _ k 3 1 (hT 3) hsv _ _ (piece_3_1 i arg2 arg8 k0_h1 (harg2.unread x1) X_arg8 k)
    (head_succ 1 15 120#32 rfl rfl _) _ (off1_row k 3) rfl) <|
  piecesOf_cons (w_tile (inb := k0_off2_inb i k k0_h1 3) x1 ws _ _ k 3 0 (hT 3) hsv _ _ (piece_3_0 i arg2 arg8 k0_h1 (harg2.unread x1) X_arg8 k)
    (head_zero _) _ (off0_row k 3) rfl) <|
  piecesOf_cons (w_tile (inb := k0_off17_inb i k k0_h1 2) x1 ws _ _ k 2 15 (hT 2) hsv _ _ (piece_2_15 i arg2 arg8 k0_h1 (harg2.unread x1) X_arg8 k)
    (head_succ 15 1 8#32 rfl rfl _) _ (off15_row k 2) rfl) <|
  piecesOf_cons (w_tile (inb := k0_off16_inb i k k0_h1 2) x1 ws _ _ k 2 14 (hT 2) hsv _ _ (piece_2_14 i arg2 arg8 k0_h1 (harg2.unread x1) X_arg8 k)
    (head_succ 14 2 16#32 rfl rfl _) _ (off14_row k 2) rfl) <|
  piecesOf_cons (w_tile (inb := k0_off15_inb i k k0_h1 2) x1 ws _ _ k 2 13 (hT 2) hsv _ _ (piece_2_13 i arg2 arg8 k0_h1 (harg2.unread x1) X_arg8 k)
    (head_succ 13 3 24#32 rfl rfl _) _ (off13_row k 2) rfl) <|
  piecesOf_cons (w_tile (inb := k0_off14_inb i k k0_h1 2) x1 ws _ _ k 2 12 (hT 2) hsv _ _ (piece_2_12 i arg2 arg8 k0_h1 (harg2.unread x1) X_arg8 k)
    (head_succ 12 4 32#32 rfl rfl _) _ (off12_row k 2) rfl) <|
  piecesOf_cons (w_tile (inb := k0_off13_inb i k k0_h1 2) x1 ws _ _ k 2 11 (hT 2) hsv _ _ (piece_2_11 i arg2 arg8 k0_h1 (harg2.unread x1) X_arg8 k)
    (head_succ 11 5 40#32 rfl rfl _) _ (off11_row k 2) rfl) <|
  piecesOf_cons (w_tile (inb := k0_off12_inb i k k0_h1 2) x1 ws _ _ k 2 10 (hT 2) hsv _ _ (piece_2_10 i arg2 arg8 k0_h1 (harg2.unread x1) X_arg8 k)
    (head_succ 10 6 48#32 rfl rfl _) _ (off10_row k 2) rfl) <|
  piecesOf_cons (w_tile (inb := k0_off11_inb i k k0_h1 2) x1 ws _ _ k 2 9 (hT 2) hsv _ _ (piece_2_9 i arg2 arg8 k0_h1 (harg2.unread x1) X_arg8 k)
    (head_succ 9 7 56#32 rfl rfl _) _ (off9_row k 2) rfl) <|
  piecesOf_cons (w_tile (inb := k0_off10_inb i k k0_h1 2) x1 ws _ _ k 2 8 (hT 2) hsv _ _ (piece_2_8 i arg2 arg8 k0_h1 (harg2.unread x1) X_arg8 k)
    (head_succ 8 8 64#32 rfl rfl _) _ (off8_row k 2) rfl) <|
  piecesOf_cons (w_tile (inb := k0_off9_inb i k k0_h1 2) x1 ws _ _ k 2 7 (hT 2) hsv _ _ (piece_2_7 i arg2 arg8 k0_h1 (harg2.unread x1) X_arg8 k)
    (head_succ 7 9 72#32 rfl rfl _) _ (off7_row k 2) rfl) <|
  piecesOf_cons (w_tile (inb := k0_off8_inb i k k0_h1 2) x1 ws _ _ k 2 6 (hT 2) hsv _ _ (piece_2_6 i arg2 arg8 k0_h1 (harg2.unread x1) X_arg8 k)
    (head_succ 6 10 80#32 rfl rfl _) _ (off6_row k 2) rfl) <|
  piecesOf_cons (w_tile (inb := k0_off7_inb i k k0_h1 2) x1 ws _ _ k 2 5 (hT 2) hsv _ _ (piece_2_5 i arg2 arg8 k0_h1 (harg2.unread x1) X_arg8 k)
    (head_succ 5 11 88#32 rfl rfl _) _ (off5_row k 2) rfl) <|
  piecesOf_cons (w_tile (inb := k0_off6_inb i k k0_h1 2) x1 ws _ _ k 2 4 (hT 2) hsv _ _ (piece_2_4 i arg2 arg8 k0_h1 (harg2.unread x1) X_arg8 k)
    (head_succ 4 12 96#32 rfl rfl _) _ (off4_row k 2) rfl) <|
  piecesOf_cons (w_tile (inb := k0_off5_inb i k k0_h1 2) x1 ws _ _ k 2 3 (hT 2) hsv _ _ (piece_2_3 i arg2 arg8 k0_h1 (harg2.unread x1) X_arg8 k)
    (head_succ 3 13 104#32 rfl rfl _) _ (off3_row k 2) rfl) <|
  piecesOf_cons (w_tile (inb := k0_off4_inb i k k0_h1 2) x1 ws _ _ k 2 2 (hT 2) hsv _ _ (piece_2_2 i arg2 arg8 k0_h1 (harg2.unread x1) X_arg8 k)
    (head_succ 2 14 112#32 rfl rfl _) _ (off2_row k 2) rfl) <|
  piecesOf_cons (w_tile (inb := k0_off3_inb i k k0_h1 2) x1 ws _ _ k 2 1 (hT 2) hsv _ _ (piece_2_1 i arg2 arg8 k0_h1 (harg2.unread x1) X_arg8 k)
    (head_succ 1 15 120#32 rfl rfl _) _ (off1_row k 2) rfl) <|
  piecesOf_cons (w_tile (inb := k0_off2_inb i k k0_h1 2) x1 ws _ _ k 2 0 (hT 2) hsv _ _ (piece_2_0 i arg2 arg8 k0_h1 (harg2.unread x1) X_arg8 k)
    (head_zero _) _ (off0_row k 2) rfl) <|
  piecesOf_cons (w_tile (inb := k0_off17_inb i k k0_h1 1) x1 ws _ _ k 1 15 (hT 1) hsv _ _ (piece_1_15 i arg2 arg8 k0_h1 (harg2.unread x1) X_arg8 k)
    (head_succ 15 1 8#32 rfl rfl _) _ (off15_row k 1) rfl) <|
  piecesOf_cons (w_tile (inb := k0_off16_inb i k k0_h1 1) x1 ws _ _ k 1 14 (hT 1) hsv _ _ (piece_1_14 i arg2 arg8 k0_h1 (harg2.unread x1) X_arg8 k)
    (head_succ 14 2 16#32 rfl rfl _) _ (off14_row k 1) rfl) <|
  piecesOf_cons (w_tile (inb := k0_off15_inb i k k0_h1 1) x1 ws _ _ k 1 13 (hT 1) hsv _ _ (piece_1_13 i arg2 arg8 k0_h1 (harg2.unread x1) X_arg8 k)
    (head_succ 13 3 24#32 rfl rfl _) _ (off13_row k 1) rfl) <|
  piecesOf_cons (w_tile (inb := k0_off14_inb i k k0_h1 1) x1 ws _ _ k 1 12 (hT 1) hsv _ _ (piece_1_12 i arg2 arg8 k0_h1 (harg2.unread x1) X_arg8 k)
    (head_succ 12 4 32#32 rfl rfl _) _ (off12_row k 1) rfl) <|
  piecesOf_cons (w_tile (inb := k0_off13_inb i k k0_h1 1) x1 ws _ _ k 1 11 (hT 1) hsv _ _ (piece_1_11 i arg2 arg8 k0_h1 (harg2.unread x1) X_arg8 k)
    (head_succ 11 5 40#32 rfl rfl _) _ (off11_row k 1) rfl) <|
  piecesOf_cons (w_tile (inb := k0_off12_inb i k k0_h1 1) x1 ws _ _ k 1 10 (hT 1) hsv _ _ (piece_1_10 i arg2 arg8 k0_h1 (harg2.unread x1) X_arg8 k)
    (head_succ 10 6 48#32 rfl rfl _) _ (off10_row k 1) rfl) <|
  piecesOf_cons (w_tile (inb := k0_off11_inb i k k0_h1 1) x1 ws _ _ k 1 9 (hT 1) hsv _ _ (piece_1_9 i arg2 arg8 k0_h1 (harg2.unread x1) X_arg8 k)
    (head_succ 9 7 56#32 rfl rfl _) _ (off9_row k 1) rfl) <|
  piecesOf_cons (w_tile (inb := k0_off10_inb i k k0_h1 1) x1 ws _ _ k 1 8 (hT 1) hsv _ _ (piece_1_8 i arg2 arg8 k0_h1 (harg2.unread x1) X_arg8 k)
    (head_succ 8 8 64#32 rfl rfl _) _ (off8_row k 1) rfl) <|
  piecesOf_cons (w_tile (inb := k0_off9_inb i k k0_h1 1) x1 ws _ _ k 1 7 (hT 1) hsv _ _ (piece_1_7 i arg2 arg8 k0_h1 (harg2.unread x1) X_arg8 k)
    (head_succ 7 9 72#32 rfl rfl _) _ (off7_row k 1) rfl) <|
  piecesOf_cons (w_tile (inb := k0_off8_inb i k k0_h1 1) x1 ws _ _ k 1 6 (hT 1) hsv _ _ (piece_1_6 i arg2 arg8 k0_h1 (harg2.unread x1) X_arg8 k)
    (head_succ 6 10 80#32 rfl rfl _) _ (off6_row k 1) rfl) <|
  piecesOf_cons (w_tile (inb := k0_off7_inb i k k0_h1 1) x1 ws _ _ k 1 5 (hT 1) hsv _ _ (piece_1_5 i arg2 arg8 k0_h1 (harg2.unread x1) X_arg8 k)
    (head_succ 5 11 88#32 rfl rfl _) _ (off5_row k 1) rfl) <|
  piecesOf_cons (w_tile (inb := k0_off6_inb i k k0_h1 1) x1 ws _ _ k 1 4 (hT 1) hsv _ _ (piece_1_4 i arg2 arg8 k0_h1 (harg2.unread x1) X_arg8 k)
    (head_succ 4 12 96#32 rfl rfl _) _ (off4_row k 1) rfl) <|
  piecesOf_cons (w_tile (inb := k0_off5_inb i k k0_h1 1) x1 ws _ _ k 1 3 (hT 1) hsv _ _ (piece_1_3 i arg2 arg8 k0_h1 (harg2.unread x1) X_arg8 k)
    (head_succ 3 13 104#32 rfl rfl _) _ (off3_row k 1) rfl) <|
  piecesOf_cons (w_tile (inb := k0_off4_inb i k k0_h1 1) x1 ws _ _ k 1 2 (hT 1) hsv _ _ (piece_1_2 i arg2 arg8 k0_h1 (harg2.unread x1) X_arg8 k)
    (head_succ 2 14 112#32 rfl rfl _) _ (off2_row k 1) rfl) <|
  piecesOf_cons (w_tile (inb := k0_off3_inb i k k0_h1 1) x1 ws _ _ k 1 1 (hT 1) hsv _ _ (piece_1_1 i arg2 arg8 k0_h1 (harg2.unread x1) X_arg8 k)
    (head_succ 1 15 120#32 rfl rfl _) _ (off1_row k 1) rfl) <|
  piecesOf_cons (w_tile (inb := k0_off2_inb i k k0_h1 1) x1 ws _ _ k 1 0 (hT 1) hsv _ _ (piece_1_0 i arg2 arg8 k0_h1 (harg2.unread x1) X_arg8 k)
    (head_zero _) _ (off0_row k 1) rfl) <|
  piecesOf_cons (w_tile (inb := k0_off17_inb i k k0_h1 0) x1 ws _ _ k 0 15 (hT 0) hsv _ _ (piece_0_15 i arg2 arg8 k0_h1 (harg2.unread x1) X_arg8 k)
    (head_succ 15 1 8#32 rfl rfl _) _ (off15_row k 0) rfl) <|
  piecesOf_cons (w_tile (inb := k0_off16_inb i k k0_h1 0) x1 ws _ _ k 0 14 (hT 0) hsv _ _ (piece_0_14 i arg2 arg8 k0_h1 (harg2.unread x1) X_arg8 k)
    (head_succ 14 2 16#32 rfl rfl _) _ (off14_row k 0) rfl) <|
  piecesOf_cons (w_tile (inb := k0_off15_inb i k k0_h1 0) x1 ws _ _ k 0 13 (hT 0) hsv _ _ (piece_0_13 i arg2 arg8 k0_h1 (harg2.unread x1) X_arg8 k)
    (head_succ 13 3 24#32 rfl rfl _) _ (off13_row k 0) rfl) <|
  piecesOf_cons (w_tile (inb := k0_off14_inb i k k0_h1 0) x1 ws _ _ k 0 12 (hT 0) hsv _ _ (piece_0_12 i arg2 arg8 k0_h1 (harg2.unread x1) X_arg8 k)
    (head_succ 12 4 32#32 rfl rfl _) _ (off12_row k 0) rfl) <|
  piecesOf_cons (w_tile (inb := k0_off13_inb i k k0_h1 0) x1 ws _ _ k 0 11 (hT 0) hsv _ _ (piece_0_11 i arg2 arg8 k0_h1 (harg2.unread x1) X_arg8 k)
    (head_succ 11 5 40#32 rfl rfl _) _ (off11_row k 0) rfl) <|
  piecesOf_cons (w_tile (inb := k0_off12_inb i k k0_h1 0) x1 ws _ _ k 0 10 (hT 0) hsv _ _ (piece_0_10 i arg2 arg8 k0_h1 (harg2.unread x1) X_arg8 k)
    (head_succ 10 6 48#32 rfl rfl _) _ (off10_row k 0) rfl) <|
  piecesOf_cons (w_tile (inb := k0_off11_inb i k k0_h1 0) x1 ws _ _ k 0 9 (hT 0) hsv _ _ (piece_0_9 i arg2 arg8 k0_h1 (harg2.unread x1) X_arg8 k)
    (head_succ 9 7 56#32 rfl rfl _) _ (off9_row k 0) rfl) <|
  piecesOf_cons (w_tile (inb := k0_off10_inb i k k0_h1 0) x1 ws _ _ k 0 8 (hT 0) hsv _ _ (piece_0_8 i arg2 arg8 k0_h1 (harg2.unread x1) X_arg8 k)
    (head_succ 8 8 64#32 rfl rfl _) _ (off8_row k 0) rfl) <|
  piecesOf_cons (w_tile (inb := k0_off9_inb i k k0_h1 0) x1 ws _ _ k 0 7 (hT 0) hsv _ _ (piece_0_7 i arg2 arg8 k0_h1 (harg2.unread x1) X_arg8 k)
    (head_succ 7 9 72#32 rfl rfl _) _ (off7_row k 0) rfl) <|
  piecesOf_cons (w_tile (inb := k0_off8_inb i k k0_h1 0) x1 ws _ _ k 0 6 (hT 0) hsv _ _ (piece_0_6 i arg2 arg8 k0_h1 (harg2.unread x1) X_arg8 k)
    (head_succ 6 10 80#32 rfl rfl _) _ (off6_row k 0) rfl) <|
  piecesOf_cons (w_tile (inb := k0_off7_inb i k k0_h1 0) x1 ws _ _ k 0 5 (hT 0) hsv _ _ (piece_0_5 i arg2 arg8 k0_h1 (harg2.unread x1) X_arg8 k)
    (head_succ 5 11 88#32 rfl rfl _) _ (off5_row k 0) rfl) <|
  piecesOf_cons (w_tile (inb := k0_off6_inb i k k0_h1 0) x1 ws _ _ k 0 4 (hT 0) hsv _ _ (piece_0_4 i arg2 arg8 k0_h1 (harg2.unread x1) X_arg8 k)
    (head_succ 4 12 96#32 rfl rfl _) _ (off4_row k 0) rfl) <|
  piecesOf_cons (w_tile (inb := k0_off5_inb i k k0_h1 0) x1 ws _ _ k 0 3 (hT 0) hsv _ _ (piece_0_3 i arg2 arg8 k0_h1 (harg2.unread x1) X_arg8 k)
    (head_succ 3 13 104#32 rfl rfl _) _ (off3_row k 0) rfl) <|
  piecesOf_cons (w_tile (inb := k0_off4_inb i k k0_h1 0) x1 ws _ _ k 0 2 (hT 0) hsv _ _ (piece_0_2 i arg2 arg8 k0_h1 (harg2.unread x1) X_arg8 k)
    (head_succ 2 14 112#32 rfl rfl _) _ (off2_row k 0) rfl) <|
  piecesOf_cons (w_tile (inb := k0_off3_inb i k k0_h1 0) x1 ws _ _ k 0 1 (hT 0) hsv _ _ (piece_0_1 i arg2 arg8 k0_h1 (harg2.unread x1) X_arg8 k)
    (head_succ 1 15 120#32 rfl rfl _) _ (off1_row k 0) rfl) <|
  piecesOf_cons (w_tile (inb := k0_off2_inb i k k0_h1 0) x1 ws _ _ k 0 0 (hT 0) hsv _ _ (piece_0_0 i arg2 arg8 k0_h1 (harg2.unread x1) X_arg8 k)
    (head_zero _) _ (off0_row k 0) rfl) <|
  trivial

/-- The stores of the first trips agree with the prepared weight. -/
theorem loop_pieces (ws : Vec F S16x128 .f32) (hws : ws = View.read (Elt F) arg8.view X_arg8) (n : ℕ) :
    View.PiecesOf (W x1 ws : Vec F S1920x2048 .bf16)
    (pb_k0_t1 Variants.none c none i arg1 harg1 arg2 harg2 arg3 harg3 arg4 harg4 arg5 harg5 arg6 harg6 arg7 harg7
      arg8 harg8 arg9 harg9 k0_h1 laneV 8#32 (divsi laneV (broadcast S32x128 8#32)) 0#32 (harg2.unread x1) X_arg8 n) := by
  induction n with
  | zero => exact trivial
  | succ n ih =>
    rw [pb_k0_t1.eq_2]
    unfold pb_k0_t1Step
    split
    · exact piecesOf_append (trip_pieces c i arg1 harg1 arg2 harg2 arg3 harg3 arg4 harg4 arg5 harg5 arg6 harg6 arg7
        harg7 arg8 harg8 arg9 harg9 k0_h1 x1 X_arg8 ws hws _) ih
    · exact ih

end Cert.KernelIdeal.Regroup
-- ==== Proof.Spread.lean ====
module
public import proofs.«01_k».proof.Proof.Weights

/-! The weight's scales spread over the lanes: eight lanes to a scale. -/

@[expose] public section

namespace Cert.KernelIdeal.Regroup
open Idealize.ShloMosaic Cert.KernelIdeal Cert.KernelIdeal.Gen Cert.KernelIdeal.Quant
variable {F : FTy → Type} [FloatOps F]

/-- The lane gathered from, first eight rows. -/
theorem spread_idx (r : Fin 8) (l : Fin 128) : k0_pay584 (ix2 r l) = BitVec.ofNat 32 (l.val / 8) := by
  unfold k0_pay584
  pointwise
  revert l
  decide +kernel

/-- An eighth of a lane number fits. -/
theorem eighth_toNat (l : Fin 128) : (BitVec.ofNat 32 (l.val / 8)).toNat % 128 = l.val / 8 := by
  revert l
  decide +kernel

/-- The scales spread over the lanes, from two halves of eight rows. -/
theorem spread_apply (a b : Vec F S8x128 .f32) (k : Fin 16) (l : Fin 128) :
    k0_pay585 (iota .tc S16x128 32 [1] iota_S16x128_d1_w32) a k0_pay584 b (ix2 k l)
      = if h : k.val < 8 then a (ix2 (n0 := 8) (n1 := 128) ⟨k.val, h⟩ ⟨l.val / 8, by omega⟩)
        else b (ix2 (n0 := 8) (n1 := 128) ⟨k.val - 8, by omega⟩ ⟨l.val / 8, by omega⟩) := by
  unfold k0_pay585
  pointwise
  split
  · refine congrArg a (congrArg (ix2 (n0 := 8) (n1 := 128) _) (Fin.ext ?_))
    rw [spread_idx]
    exact eighth_toNat l
  · refine congrArg b (congrArg (ix2 (n0 := 8) (n1 := 128) _) (Fin.ext ?_))
    dsimp only
    clear * -
    revert l
    decide +kernel

/-- The scales laid in the upper left corner of the buffer. -/
theorem corner_apply (c : Dev nD) (arg3 : Memref sig .tc .vmem S15x16 .f32) (harg3 : arg3.IsWhole)
    (x2 : Vec F S15x16 .f32) (k : Fin 15) (l : Fin 16) (y : S16x128.Idx)
    (h0 : (y 0).val = k.val) (h1 : (y 1).val = l.val) :
    View.canon (kernelRun0_A.sl.HS1_2 c arg3 harg3 x2) y = x2 (ix2 k l) := by
  have hy : y = (Rect.unit (s := S16x128) ![0, 0] S15x16.size inb_S16x128_S15x16_0_0).emb (ix2 k l) := by
    refine funext fun a => Fin.ext ?_
    rw [ValueKit.rect_emb_unit_val (s := S16x128)]
    fin_cases a
    · exact h0.trans (Nat.zero_add _).symm
    · exact h1.trans (Nat.zero_add _).symm
  rw [hy]
  refine (View.canon_cons_emb _ _ _ _).trans ?_
  unfold k0_pay583
  refine congrFun (shapeCast_self (s := S15x16) _ _) _ |>.trans ?_
  rw [View.readAt_eq_ld, harg3.read_unread]
  refine (View.ld_unit_apply_of (S := S15x16) _ _ _ _ _ (ix2 k l) ?_)
  intro a
  fin_cases a <;> exact (Nat.zero_add _).symm

/-- The scales buffer, after its last writing, holds at row `k` and lane `l` the scale of lane `l / 8`. -/
theorem scales_read (c : Dev nD) (arg3 : Memref sig .tc .vmem S15x16 .f32) (harg3 : arg3.IsWhole)
    (arg8 : Memref sig .tc .vmem S16x128 .f32) (x2 : Vec F S15x16 .f32) (k : Fin 15) (l : Fin 128) :
    View.read (Elt F) arg8.view (arg8.view.writes (Elt F) arg8.view.junk (kernelRun0_A.sl.HS1_3 c arg3 harg3 arg8 x2))
        (ix2 (n0 := 16) (n1 := 128) ⟨k.val, by omega⟩ l)
      = x2 (ix2 (n0 := 15) (n1 := 16) k ⟨l.val / 8, by omega⟩) := by
  rw [View.read_writes_junk_eq_canon]
  unfold kernelRun0_A.sl.HS1_3
  refine (congrFun (View.canon_cons_unit_lit _ _ _ (fun a => by fin_cases a <;> rfl)) _).trans ?_
  refine (spread_apply (kernelRun0_A.sl.v1823 c arg3 harg3 arg8 x2) (kernelRun0_A.sl.v1857 c arg3 harg3 arg8 x2) ⟨k.val, by omega⟩ l).trans ?_
  split
  · unfold kernelRun0_A.sl.v1823
    rw [View.readCov_eq_canon']
    exact corner_apply c arg3 harg3 x2 k _ _ (by show 0 + 1 * k.val = k.val; omega)
      (by show 0 + 1 * (l.val / 8) = l.val / 8; omega)
  · rename_i h
    unfold kernelRun0_A.sl.v1857
    rw [View.readCov_eq_canon']
    exact corner_apply c arg3 harg3 x2 k _ _ (by show 8 + 1 * (k.val - 8) = k.val; dsimp only at h; omega)
      (by show 0 + 1 * (l.val / 8) = l.val / 8; omega)

/-- The carried weight: what the first point of a row leaves in the scratch. -/
theorem carried (c : Dev nD) (i : grid0.Coords)
    (arg1 : Memref sig .tc .vmem S512x1920 .bf16) (harg1 : arg1.IsWhole)
    (arg2 : Memref sig .tc .vmem S1920x2048 .fp8e4m3) (harg2 : arg2.IsWhole)
    (arg3 : Memref sig .tc .vmem S15x16 .f32) (harg3 : arg3.IsWhole)
    (arg4 : Memref sig .tc .vmem S512x16x128 .bf16) (harg4 : arg4.IsWhole)
    (arg5 : Memref sig .tc .vmem S512x1920 .fp8e4m3) (harg5 : arg5.IsWhole)
    (arg6 : Memref sig .tc .vmem S512x15 .f32) (harg6 : arg6.IsWhole)
    (arg7 : Memref sig .tc .vmem S1920x2048 .bf16) (harg7 : arg7.IsWhole)
    (arg8 : Memref sig .tc .vmem S16x128 .f32) (harg8 : arg8.IsWhole)
    (arg9 : Memref sig .tc .vmem S512x1920 .bf16) (harg9 : arg9.IsWhole) (hc0 : cond0_0 i)
    (x0 : Vec F S512x1920 .bf16) (x1 : Vec F S1920x2048 .fp8e4m3) (x2 : Vec F S15x16 .f32) :
    View.canon (kernelRun0_A c i arg1 harg1 arg2 harg2 arg3 harg3 arg4 harg4 arg5 harg5 arg6 harg6 arg7 harg7 arg8
        harg8 arg9 harg9 hc0 x0 x1 x2).2.2.2.1
      = W x1 (View.read (Elt F) arg8.view
          (arg8.view.writes (Elt F) arg8.view.junk (kernelRun0_A.sl.HS1_3 c arg3 harg3 arg8 x2))) := by
  refine funext fun y => ?_
  refine View.canon_apply_of_pieces _ _ ?_ y
    (scover0_A_0 c i arg1 harg1 arg2 harg2 arg3 harg3 arg4 harg4 arg5 harg5 arg6 harg6 arg7 harg7 arg8 harg8 arg9
      harg9 hc0 x0 x1 x2 y)
  intro p hp x
  exact (loop_pieces c i arg1 harg1 arg2 harg2 arg3 harg3 arg4 harg4 arg5 harg5 arg6 harg6 arg7 harg7 arg8 harg8 arg9
    harg9 hc0 x1 _ _ rfl _).mem p hp x

end Cert.KernelIdeal.Regroup
-- ==== Proof.Product.lean ====
module
public import proofs.«01_k».proof.Proof.QuantAt
public import proofs.«01_k».proof.Proof.QuantRuns
public import proofs.«01_k».proof.Proof.Spread

/-! The product of a block of tokens with the carried weight, two heads at a time. -/

@[expose] public section

namespace Cert.KernelIdeal.Product
open Idealize.ShloMosaic Cert.KernelIdeal Cert.KernelIdeal.Gen Cert.KernelIdeal.Quant Cert.KernelIdeal.Regroup

/-- The product laid out token by head by lane. -/
noncomputable def prod (X : Vec Ideal S512x1920 .bf16) (Wt : Vec Ideal S1920x2048 .bf16) : Vec Ideal S512x16x128 .bf16 :=
  fun y => ∑ k : Fin 1920, (X (ix2 (n0 := 512) (n1 := 1920) (y 0) k) : EReal)
    * (Wt (ix2 (n0 := 1920) (n1 := 2048) k ⟨128 * (y 1).val + (y 2).val, by
        have h1 : (y 1).val < 16 := (y 1).isLt
        have h2 : (y 2).val < 128 := (y 2).isLt
        omega⟩) : EReal)

/-- One pass: two heads of the product, at a token, a head of the two, and a lane. -/
theorem pass_apply (X : Vec Ideal S512x1920 .bf16) (wl : Vec Ideal S1920x256 .bf16) (r : Fin 512) (p : Fin 2) (l : Fin 128) :
    (k0_pay1165 X wl (ix3 r p l) : EReal) = ∑ k : Fin 1920, (X (ix2 r k) : EReal)
      * (wl (ix2 (n0 := 1920) (n1 := 256) k ⟨128 * p.val + l.val, by omega⟩) : EReal) := by
  unfold k0_pay1165
  pointwise
  split
  · rename_i h
    refine Finset.sum_congr rfl fun k _ => congrArg (X (ix2 r k) * wl ·) (congrArg (ix2 (n0 := 1920) (n1 := 256) k) (Fin.ext ?_))
    show l.val = 128 * p.val + l.val
    omega
  · rename_i h
    refine Finset.sum_congr rfl fun k _ => congrArg (X (ix2 r k) * wl ·) (congrArg (ix2 (n0 := 1920) (n1 := 256) k) (Fin.ext ?_))
    show 128 + l.val = 128 * p.val + l.val
    omega

/-- One pass's piece is the product's there, when the pass read the carried weight's columns. -/
theorem pass_tile (Wt : Vec Ideal S1920x2048 .bf16) (X' X : Vec Ideal S512x1920 .bf16) (hX : X' = X)
    (wl : Vec Ideal S1920x256 .bf16)
    (o m : ℕ) (hm : m = 128 * o) (inb : ∀ a, ![0, o, 0] a + S512x2x128.size a ≤ S512x16x128.size a)
    (hw : ∀ (k : Fin 1920) (l : Fin 256) (z : S1920x2048.Idx), (z 0).val = k.val → (z 1).val = m + l.val →
      wl (ix2 k l) = Wt z) :
    ∀ x : (Rect.unit (s := S512x16x128) ![0, o, 0] S512x2x128.size inb).shape.Idx,
      k0_pay1165 X' wl x = prod X Wt ((Rect.unit (s := S512x16x128) ![0, o, 0] S512x2x128.size inb).emb x) := by
  subst hX
  intro x
  obtain ⟨r, p, l, rfl⟩ : ∃ (r : Fin 512) (p : Fin 2) (l : Fin 128), x = ix3 r p l := ⟨x 0, x 1, x 2, eq_ix3 x⟩
  have e0 := ValueKit.rect_emb_unit_val (s := S512x16x128) ![0, o, 0] S512x2x128.size inb (ix3 r p l) 0
  have e1 := ValueKit.rect_emb_unit_val (s := S512x16x128) ![0, o, 0] S512x2x128.size inb (ix3 r p l) 1
  have e2 := ValueKit.rect_emb_unit_val (s := S512x16x128) ![0, o, 0] S512x2x128.size inb (ix3 r p l) 2
  have f0 : (((Rect.unit (s := S512x16x128) ![0, o, 0] S512x2x128.size inb).emb (ix3 r p l)) 0).val = r.val :=
    e0.trans (Nat.zero_add _)
  have f1 : (((Rect.unit (s := S512x16x128) ![0, o, 0] S512x2x128.size inb).emb (ix3 r p l)) 1).val = o + p.val := e1
  have f2 : (((Rect.unit (s := S512x16x128) ![0, o, 0] S512x2x128.size inb).emb (ix3 r p l)) 2).val = l.val :=
    e2.trans (Nat.zero_add _)
  refine (pass_apply X' wl r p l).trans ?_
  refine Finset.sum_congr rfl fun k _ => ?_
  refine congrArg₂ (fun a b : EReal => a * b) ?_ (hw k _ _ rfl ?_)
  · exact congrArg X' (congrArg (ix2 (n0 := 512) (n1 := 1920) · k) (Fin.ext f0.symm))
  · show 128 * _ + _ = m + (128 * p.val + l.val)
    rw [f1, f2]
    omega

/-- A load of columns out of the carried weight, held whole. -/
theorem load_whole (arg7 : Memref sig .tc .vmem S1920x2048 .bf16) (harg7 : arg7.IsWhole) (xs0 : Vec Ideal S1920x2048 .bf16)
    (m : ℕ) (inb : ∀ a, ![0, m] a + S1920x256.size a ≤ S1920x2048.size a) (k : Fin 1920) (l : Fin 256)
    (z : S1920x2048.Idx) (h0 : (z 0).val = k.val) (h1 : (z 1).val = m + l.val) :
    View.readAt (Elt Ideal) arg7.view (Rect.unit (s := S1920x2048) ![0, m] S1920x256.size inb).toLoadRect
      (harg7.unread xs0) (ix2 k l) = xs0 z := by
  rw [View.readAt_eq_ld, harg7.read_unread]
  refine (View.ld_unit_apply_of (S := S1920x2048) _ _ _ _ _ z ?_)
  intro a
  fin_cases a
  · exact h0.trans (Nat.zero_add _).symm
  · exact h1

/-- A load of columns out of what has been written of the carried weight. -/
theorem load_written (arg7 : Memref sig .tc .vmem S1920x2048 .bf16) (L : List (View.Piece (Elt Ideal) S1920x2048 .bf16))
    (Wt : Vec Ideal S1920x2048 .bf16) (hL : View.canon L = Wt)
    (m : ℕ) (inb : ∀ a, ![0, m] a + S1920x256.size a ≤ S1920x2048.size a) (k : Fin 1920) (l : Fin 256)
    (z : S1920x2048.Idx) (h0 : (z 0).val = k.val) (h1 : (z 1).val = m + l.val) :
    arg7.view.readCov L (Rect.unit (s := S1920x2048) ![0, m] S1920x256.size inb).toLoadRect (ix2 k l) = Wt z := by
  rw [View.readCov_eq_canon', hL]
  refine congrArg Wt (funext fun a => Fin.ext ?_)
  fin_cases a
  · refine Eq.trans ?_ h0.symm
    show 0 + 1 * k.val = k.val
    omega
  · refine Eq.trans ?_ h1.symm
    show m + 1 * l.val = m + l.val
    omega

/-- The dequantised block, read back whole. -/
theorem deq_read (arg9 : Memref sig .tc .vmem S512x1920 .bf16) (L : List (View.Piece (Elt Ideal) S512x1920 .bf16))
    (X : Vec Ideal S512x1920 .bf16) (hL : View.PiecesOf X L) (hc : ∀ y, ∃ p ∈ L, y ∈ p.1.set) :
    arg9.view.readCov L (Rect.unit (s := S512x1920) ![0, 0] S512x1920.size inb_S512x1920_S512x1920_0_0).toLoadRect = X := by
  refine funext fun x => ?_
  rw [View.readCov_eq_canon']
  refine (View.canon_apply_of_pieces X L hL.mem _ (hc _)).trans (congrArg X (funext fun a => Fin.ext ?_))
  fin_cases a <;> exact (Nat.zero_add _).trans (Nat.one_mul _)

end Cert.KernelIdeal.Product
-- ==== Proof.ProductRuns.lean ====
module
public import proofs.«01_k».proof.Proof.Product
public import Idealize.ShloMosaic.Lib.Ring

/-! The stores of the product, read off the frame's runs in both cases of the body. -/

@[expose] public section

namespace Cert.KernelIdeal.Product
open Idealize.ShloMosaic Cert.KernelIdeal Cert.KernelIdeal.Gen Cert.KernelIdeal.Quant Cert.KernelIdeal.Regroup
variable (c : Dev nD) (i : grid0.Coords)
  (arg1 : Memref sig .tc .vmem S512x1920 .bf16) (harg1 : arg1.IsWhole)
  (arg2 : Memref sig .tc .vmem S1920x2048 .fp8e4m3) (harg2 : arg2.IsWhole)
  (arg3 : Memref sig .tc .vmem S15x16 .f32) (harg3 : arg3.IsWhole)
  (arg4 : Memref sig .tc .vmem S512x16x128 .bf16) (harg4 : arg4.IsWhole)
  (arg5 : Memref sig .tc .vmem S512x1920 .fp8e4m3) (harg5 : arg5.IsWhole)
  (arg6 : Memref sig .tc .vmem S512x15 .f32) (harg6 : arg6.IsWhole)
  (arg7 : Memref sig .tc .vmem S1920x2048 .bf16) (harg7 : arg7.IsWhole)
  (arg8 : Memref sig .tc .vmem S16x128 .f32) (harg8 : arg8.IsWhole)
  (arg9 : Memref sig .tc .vmem S512x1920 .bf16) (harg9 : arg9.IsWhole)
  (x0 : Vec Ideal S512x1920 .bf16) (x1 : Vec Ideal S1920x2048 .fp8e4m3) (x2 : Vec Ideal S15x16 .f32)
  (xs0 : Vec Ideal S1920x2048 .bf16)

/-- The dequantised block of tokens. -/
noncomputable def deqBlock : Vec Ideal S512x1920 .bf16 :=
  tiled (F := Ideal) (e := .bf16) fun g => deqV (F := Ideal) (blk x0 g)

/-- The carried weight as the first point of a row leaves it. -/
noncomputable def weight : Vec Ideal S1920x2048 .bf16 :=
  W x1 (View.read (Elt Ideal) arg8.view
    (arg8.view.writes (Elt Ideal) arg8.view.junk (kernelRun0_A.sl.HS1_3 c arg3 harg3 arg8 x2)))

/-- Case A: the dequantised block is read back whole. -/
theorem deq_read_A : kernelRun0_A.sl.v1734 c arg1 harg1 arg9 x0 = deqBlock x0 :=
  deq_read arg9 _ _ (deq_A c arg1 harg1 x0)
    fun y => View.cover_of_tiledL (kernelRun0_A.sl.HS2_15 c arg1 harg1 x0) S512x128.size (by sl_kernel_rfl) y

/-- Case B: the dequantised block is read back whole. -/
theorem deq_read_B : kernelRun0_B.sl.v1734 c arg1 harg1 arg9 x0 = deqBlock x0 :=
  deq_read arg9 _ _ (deq_B c arg1 harg1 x0)
    fun y => View.cover_of_tiledL (kernelRun0_B.sl.HS2_15 c arg1 harg1 x0) S512x128.size (by sl_kernel_rfl) y

/-- Case B: what is stored of the output is the product. -/
theorem prod_B (hc0 : ¬cond0_0 i) : View.PiecesOf (prod (deqBlock x0) xs0)
    (kernelRun0_B c i arg1 harg1 arg2 harg2 arg3 harg3 arg4 harg4 arg5 harg5 arg6 harg6 arg7 harg7 arg8 harg8 arg9 harg9 hc0 x0 x1 x2 xs0).1 :=
  piecesOf_cons (pass_tile _ _ _ (deq_read_B c arg1 harg1 arg9 x0) _ 14 1792 rfl inb_S512x16x128_S512x2x128_0_14_0
    (load_whole arg7 harg7 xs0 1792 inb_S1920x2048_S1920x256_0_1792)) <|
  piecesOf_cons (pass_tile _ _ _ (deq_read_B c arg1 harg1 arg9 x0) _ 12 1536 rfl inb_S512x16x128_S512x2x128_0_12_0
    (load_whole arg7 harg7 xs0 1536 inb_S1920x2048_S1920x256_0_1536)) <|
  piecesOf_cons (pass_tile _ _ _ (deq_read_B c arg1 harg1 arg9 x0) _ 10 1280 rfl inb_S512x16x128_S512x2x128_0_10_0
    (load_whole arg7 harg7 xs0 1280 inb_S1920x2048_S1920x256_0_1280)) <|
  piecesOf_cons (pass_tile _ _ _ (deq_read_B c arg1 harg1 arg9 x0) _ 8 1024 rfl inb_S512x16x128_S512x2x128_0_8_0
    (load_whole arg7 harg7 xs0 1024 inb_S1920x2048_S1920x256_0_1024)) <|
  piecesOf_cons (pass_tile _ _ _ (deq_read_B c arg1 harg1 arg9 x0) _ 6 768 rfl inb_S512x16x128_S512x2x128_0_6_0
    (load_whole arg7 harg7 xs0 768 inb_S1920x2048_S1920x256_0_768)) <|
  piecesOf_cons (pass_tile _ _ _ (deq_read_B c arg1 harg1 arg9 x0) _ 4 512 rfl inb_S512x16x128_S512x2x128_0_4_0
    (load_whole arg7 harg7 xs0 512 inb_S1920x2048_S1920x256_0_512)) <|
  piecesOf_cons (pass_tile _ _ _ (deq_read_B c arg1 harg1 arg9 x0) _ 2 256 rfl inb_S512x16x128_S512x2x128_0_2_0
    (load_whole arg7 harg7 xs0 256 inb_S1920x2048_S1920x256_0_256)) <|
  piecesOf_cons (pass_tile _ _ _ (deq_read_B c arg1 harg1 arg9 x0) _ 0 0 rfl inb_S512x16x128_S512x2x128_0_0_0
    (load_whole arg7 harg7 xs0 0 inb_S1920x2048_S1920x256_0_0)) <|
  trivial

/-- Case A: what is stored of the output is the product. -/
theorem prod_A (hc0 : cond0_0 i) : View.PiecesOf (prod (deqBlock x0) (weight c arg3 harg3 arg8 x1 x2))
    (kernelRun0_A c i arg1 harg1 arg2 harg2 arg3 harg3 arg4 harg4 arg5 harg5 arg6 harg6 arg7 harg7 arg8 harg8 arg9 harg9 hc0 x0 x1 x2).1 :=
  piecesOf_cons (pass_tile _ _ _ (deq_read_A c arg1 harg1 arg9 x0) _ 14 1792 rfl inb_S512x16x128_S512x2x128_0_14_0
    (load_written arg7 _ _ (carried c i arg1 harg1 arg2 harg2 arg3 harg3 arg4 harg4 arg5 harg5 arg6 harg6 arg7 harg7 arg8 harg8 arg9 harg9 hc0 x0 x1 x2) 1792 inb_S1920x2048_S1920x256_0_1792)) <|
  piecesOf_cons (pass_tile _ _ _ (deq_read_A c arg1 harg1 arg9 x0) _ 12 1536 rfl inb_S512x16x128_S512x2x128_0_12_0
    (load_written arg7 _ _ (carried c i arg1 harg1 arg2 harg2 arg3 harg3 arg4 harg4 arg5 harg5 arg6 harg6 arg7 harg7 arg8 harg8 arg9 harg9 hc0 x0 x1 x2) 1536 inb_S1920x2048_S1920x256_0_1536)) <|
  piecesOf_cons (pass_tile _ _ _ (deq_read_A c arg1 harg1 arg9 x0) _ 10 1280 rfl inb_S512x16x128_S512x2x128_0_10_0
    (load_written arg7 _ _ (carried c i arg1 harg1 arg2 harg2 arg3 harg3 arg4 harg4 arg5 harg5 arg6 harg6 arg7 harg7 arg8 harg8 arg9 harg9 hc0 x0 x1 x2) 1280 inb_S1920x2048_S1920x256_0_1280)) <|
  piecesOf_cons (pass_tile _ _ _ (deq_read_A c arg1 harg1 arg9 x0) _ 8 1024 rfl inb_S512x16x128_S512x2x128_0_8_0
    (load_written arg7 _ _ (carried c i arg1 harg1 arg2 harg2 arg3 harg3 arg4 harg4 arg5 harg5 arg6 harg6 arg7 harg7 arg8 harg8 arg9 harg9 hc0 x0 x1 x2) 1024 inb_S1920x2048_S1920x256_0_1024)) <|
  piecesOf_cons (pass_tile _ _ _ (deq_read_A c arg1 harg1 arg9 x0) _ 6 768 rfl inb_S512x16x128_S512x2x128_0_6_0
    (load_written arg7 _ _ (carried c i arg1 harg1 arg2 harg2 arg3 harg3 arg4 harg4 arg5 harg5 arg6 harg6 arg7 harg7 arg8 harg8 arg9 harg9 hc0 x0 x1 x2) 768 inb_S1920x2048_S1920x256_0_768)) <|
  piecesOf_cons (pass_tile _ _ _ (deq_read_A c arg1 harg1 arg9 x0) _ 4 512 rfl inb_S512x16x128_S512x2x128_0_4_0
    (load_written arg7 _ _ (carried c i arg1 harg1 arg2 harg2 arg3 harg3 arg4 harg4 arg5 harg5 arg6 harg6 arg7 harg7 arg8 harg8 arg9 harg9 hc0 x0 x1 x2) 512 inb_S1920x2048_S1920x256_0_512)) <|
  piecesOf_cons (pass_tile _ _ _ (deq_read_A c arg1 harg1 arg9 x0) _ 2 256 rfl inb_S512x16x128_S512x2x128_0_2_0
    (load_written arg7 _ _ (carried c i arg1 harg1 arg2 harg2 arg3 harg3 arg4 harg4 arg5 harg5 arg6 harg6 arg7 harg7 arg8 harg8 arg9 harg9 hc0 x0 x1 x2) 256 inb_S1920x2048_S1920x256_0_256)) <|
  piecesOf_cons (pass_tile _ _ _ (deq_read_A c arg1 harg1 arg9 x0) _ 0 0 rfl inb_S512x16x128_S512x2x128_0_0_0
    (load_written arg7 _ _ (carried c i arg1 harg1 arg2 harg2 arg3 harg3 arg4 harg4 arg5 harg5 arg6 harg6 arg7 harg7 arg8 harg8 arg9 harg9 hc0 x0 x1 x2) 0 inb_S1920x2048_S1920x256_0_0)) <|
  trivial

end Cert.KernelIdeal.Product
-- ==== Proof.Outs.lean ====
module
public import proofs.«01_k».proof.Proof.ProductRuns

/-! What a point of the grid leaves in the three output blocks and in the carried scratch, in both cases of the body. -/

@[expose] public section

namespace Cert.KernelIdeal.Product
open Idealize.ShloMosaic Cert.KernelIdeal Cert.KernelIdeal.Gen Cert.KernelIdeal.Quant Cert.KernelIdeal.Regroup
variable (c : Dev nD) (i : grid0.Coords)
  (arg1 : Memref sig .tc .vmem S512x1920 .bf16) (harg1 : arg1.IsWhole)
  (arg2 : Memref sig .tc .vmem S1920x2048 .fp8e4m3) (harg2 : arg2.IsWhole)
  (arg3 : Memref sig .tc .vmem S15x16 .f32) (harg3 : arg3.IsWhole)
  (arg4 : Memref sig .tc .vmem S512x16x128 .bf16) (harg4 : arg4.IsWhole)
  (arg5 : Memref sig .tc .vmem S512x1920 .fp8e4m3) (harg5 : arg5.IsWhole)
  (arg6 : Memref sig .tc .vmem S512x15 .f32) (harg6 : arg6.IsWhole)
  (arg7 : Memref sig .tc .vmem S1920x2048 .bf16) (harg7 : arg7.IsWhole)
  (arg8 : Memref sig .tc .vmem S16x128 .f32) (harg8 : arg8.IsWhole)
  (arg9 : Memref sig .tc .vmem S512x1920 .bf16) (harg9 : arg9.IsWhole)
  (x0 : Vec Ideal S512x1920 .bf16) (x1 : Vec Ideal S1920x2048 .fp8e4m3) (x2 : Vec Ideal S15x16 .f32)
  (xs0 : Vec Ideal S1920x2048 .bf16)

/-- The codes of a block of tokens. -/
noncomputable def codesBlock : Vec Ideal S512x1920 .fp8e4m3 :=
  tiled (F := Ideal) (e := .fp8e4m3) fun g => codesV (F := Ideal) (blk x0 g)

/-- The scales of a block of tokens. -/
noncomputable def scalesBlock : Vec Ideal S512x15 .f32 := fun y =>
  Ladder.scale (most fun k => x0 (gix (y 0) (y 1) k))

/-- The fifteen groups, as loaded one by one, are the groups of the block. -/
theorem groups_eq (g : Fin 15) : (![shapeCast S512x128 (View.readAt (Elt Ideal) arg1.view (Rect.unit (s := S512x1920) ![0, 0] S512x128.size inb_S512x1920_S512x128_0_0).toLoadRect
        (harg1.unread x0)) shapeCasts_S512x128_S512x128,
      shapeCast S512x128 (View.readAt (Elt Ideal) arg1.view (Rect.unit (s := S512x1920) ![0, 128] S512x128.size inb_S512x1920_S512x128_0_128).toLoadRect
        (harg1.unread x0)) shapeCasts_S512x128_S512x128,
      shapeCast S512x128 (View.readAt (Elt Ideal) arg1.view (Rect.unit (s := S512x1920) ![0, 256] S512x128.size inb_S512x1920_S512x128_0_256).toLoadRect
        (harg1.unread x0)) shapeCasts_S512x128_S512x128,
      shapeCast S512x128 (View.readAt (Elt Ideal) arg1.view (Rect.unit (s := S512x1920) ![0, 384] S512x128.size inb_S512x1920_S512x128_0_384).toLoadRect
        (harg1.unread x0)) shapeCasts_S512x128_S512x128,
      shapeCast S512x128 (View.readAt (Elt Ideal) arg1.view (Rect.unit (s := S512x1920) ![0, 512] S512x128.size inb_S512x1920_S512x128_0_512).toLoadRect
        (harg1.unread x0)) shapeCasts_S512x128_S512x128,
      shapeCast S512x128 (View.readAt (Elt Ideal) arg1.view (Rect.unit (s := S512x1920) ![0, 640] S512x128.size inb_S512x1920_S512x128_0_640).toLoadRect
        (harg1.unread x0)) shapeCasts_S512x128_S512x128,
      shapeCast S512x128 (View.readAt (Elt Ideal) arg1.view (Rect.unit (s := S512x1920) ![0, 768] S512x128.size inb_S512x1920_S512x128_0_768).toLoadRect
        (harg1.unread x0)) shapeCasts_S512x128_S512x128,
      shapeCast S512x128 (View.readAt (Elt Ideal) arg1.view (Rect.unit (s := S512x1920) ![0, 896] S512x128.size inb_S512x1920_S512x128_0_896).toLoadRect
        (harg1.unread x0)) shapeCasts_S512x128_S512x128,
      shapeCast S512x128 (View.readAt (Elt Ideal) arg1.view (Rect.unit (s := S512x1920) ![0, 1024] S512x128.size inb_S512x1920_S512x128_0_1024).toLoadRect
        (harg1.unread x0)) shapeCasts_S512x128_S512x128,
      shapeCast S512x128 (View.readAt (Elt Ideal) arg1.view (Rect.unit (s := S512x1920) ![0, 1152] S512x128.size inb_S512x1920_S512x128_0_1152).toLoadRect
        (harg1.unread x0)) shapeCasts_S512x128_S512x128,
      shapeCast S512x128 (View.readAt (Elt Ideal) arg1.view (Rect.unit (s := S512x1920) ![0, 1280] S512x128.size inb_S512x1920_S512x128_0_1280).toLoadRect
        (harg1.unread x0)) shapeCasts_S512x128_S512x128,
      shapeCast S512x128 (View.readAt (Elt Ideal) arg1.view (Rect.unit (s := S512x1920) ![0, 1408] S512x128.size inb_S512x1920_S512x128_0_1408).toLoadRect
        (harg1.unread x0)) shapeCasts_S512x128_S512x128,
      shapeCast S512x128 (View.readAt (Elt Ideal) arg1.view (Rect.unit (s := S512x1920) ![0, 1536] S512x128.size inb_S512x1920_S512x128_0_1536).toLoadRect
        (harg1.unread x0)) shapeCasts_S512x128_S512x128,
      shapeCast S512x128 (View.readAt (Elt Ideal) arg1.view (Rect.unit (s := S512x1920) ![0, 1664] S512x128.size inb_S512x1920_S512x128_0_1664).toLoadRect
        (harg1.unread x0)) shapeCasts_S512x128_S512x128,
      shapeCast S512x128 (View.readAt (Elt Ideal) arg1.view (Rect.unit (s := S512x1920) ![0, 1792] S512x128.size inb_S512x1920_S512x128_0_1792).toLoadRect
        (harg1.unread x0)) shapeCasts_S512x128_S512x128] : Fin 15 → FVec Ideal S512x128 .bf16) g = blk x0 g := by
  fin_cases g
  · exact blk_eq (F := Ideal) arg1 harg1 x0 0 ![0, 0] inb_S512x1920_S512x128_0_0 rfl rfl
  · exact blk_eq (F := Ideal) arg1 harg1 x0 1 ![0, 128] inb_S512x1920_S512x128_0_128 rfl rfl
  · exact blk_eq (F := Ideal) arg1 harg1 x0 2 ![0, 256] inb_S512x1920_S512x128_0_256 rfl rfl
  · exact blk_eq (F := Ideal) arg1 harg1 x0 3 ![0, 384] inb_S512x1920_S512x128_0_384 rfl rfl
  · exact blk_eq (F := Ideal) arg1 harg1 x0 4 ![0, 512] inb_S512x1920_S512x128_0_512 rfl rfl
  · exact blk_eq (F := Ideal) arg1 harg1 x0 5 ![0, 640] inb_S512x1920_S512x128_0_640 rfl rfl
  · exact blk_eq (F := Ideal) arg1 harg1 x0 6 ![0, 768] inb_S512x1920_S512x128_0_768 rfl rfl
  · exact blk_eq (F := Ideal) arg1 harg1 x0 7 ![0, 896] inb_S512x1920_S512x128_0_896 rfl rfl
  · exact blk_eq (F := Ideal) arg1 harg1 x0 8 ![0, 1024] inb_S512x1920_S512x128_0_1024 rfl rfl
  · exact blk_eq (F := Ideal) arg1 harg1 x0 9 ![0, 1152] inb_S512x1920_S512x128_0_1152 rfl rfl
  · exact blk_eq (F := Ideal) arg1 harg1 x0 10 ![0, 1280] inb_S512x1920_S512x128_0_1280 rfl rfl
  · exact blk_eq (F := Ideal) arg1 harg1 x0 11 ![0, 1408] inb_S512x1920_S512x128_0_1408 rfl rfl
  · exact blk_eq (F := Ideal) arg1 harg1 x0 12 ![0, 1536] inb_S512x1920_S512x128_0_1536 rfl rfl
  · exact blk_eq (F := Ideal) arg1 harg1 x0 13 ![0, 1664] inb_S512x1920_S512x128_0_1664 rfl rfl
  · exact blk_eq (F := Ideal) arg1 harg1 x0 14 ![0, 1792] inb_S512x1920_S512x128_0_1792 rfl rfl

/-- Case A: the output block left. -/
theorem out_A_3 (hc0 : cond0_0 i) : out0_A_3 c i arg1 harg1 arg2 harg2 arg3 harg3 arg4 harg4 arg5 harg5 arg6 harg6 arg7 harg7 arg8 harg8 arg9 harg9 hc0 x0 x1 x2 = prod (deqBlock x0) (weight c arg3 harg3 arg8 x1 x2) := by
  unfold out0_A_3
  rw [View.read_writes_junk_eq_canon]
  refine funext fun y => View.canon_apply_of_pieces _ _ ?_ y
    (cover0_A_3 c i arg1 harg1 arg2 harg2 arg3 harg3 arg4 harg4 arg5 harg5 arg6 harg6 arg7 harg7 arg8 harg8 arg9 harg9 hc0 x0 x1 x2 y)
  exact (prod_A c i arg1 harg1 arg2 harg2 arg3 harg3 arg4 harg4 arg5 harg5 arg6 harg6 arg7 harg7 arg8 harg8 arg9 harg9 x0 x1 x2 hc0).mem

/-- Case A: the codes block left. -/
theorem out_A_4 (hc0 : cond0_0 i) : out0_A_4 c i arg1 harg1 arg2 harg2 arg3 harg3 arg4 harg4 arg5 harg5 arg6 harg6 arg7 harg7 arg8 harg8 arg9 harg9 hc0 x0 x1 x2 = codesBlock x0 := by
  unfold out0_A_4
  rw [View.read_writes_junk_eq_canon]
  refine funext fun y => View.canon_apply_of_pieces _ _ ?_ y
    (cover0_A_4 c i arg1 harg1 arg2 harg2 arg3 harg3 arg4 harg4 arg5 harg5 arg6 harg6 arg7 harg7 arg8 harg8 arg9 harg9 hc0 x0 x1 x2 y)
  exact (codes_A c i arg1 harg1 arg2 harg2 arg3 harg3 arg4 harg4 arg5 harg5 arg6 harg6 arg7 harg7 arg8 harg8 arg9 harg9 x0 x1 x2 hc0).mem

/-- Case A: the scales block left. -/
theorem out_A_5 (hc0 : cond0_0 i) : out0_A_5 c i arg1 harg1 arg2 harg2 arg3 harg3 arg4 harg4 arg5 harg5 arg6 harg6 arg7 harg7 arg8 harg8 arg9 harg9 hc0 x0 x1 x2 = scalesBlock x0 := by
  unfold out0_A_5
  rw [View.read_writes_junk_eq_canon, scales_A]
  refine (View.canon_cons_unit_lit _ _ _ (fun a => by fin_cases a <;> rfl)).trans (funext fun y => ?_)
  obtain ⟨r, g, rfl⟩ : ∃ (r : Fin 512) (g : Fin 15), y = ix2 r g := ⟨y 0, y 1, eq_ix2 y⟩
  refine (scalesV_apply _ r g).trans (congrArg Ladder.scale (congrArg most (funext fun k => ?_)))
  exact congrFun (groups_eq arg1 harg1 x0 g) (ix2 r k)

/-- Case A: the carried scratch left. -/
theorem sout_A (hc0 : cond0_0 i) : sout0_A_0 c i arg1 harg1 arg2 harg2 arg3 harg3 arg4 harg4 arg5 harg5 arg6 harg6 arg7 harg7 arg8 harg8 arg9 harg9 hc0 x0 x1 x2 = weight c arg3 harg3 arg8 x1 x2 := by
  unfold sout0_A_0
  rw [View.read_writes_junk_eq_canon]
  exact carried c i arg1 harg1 arg2 harg2 arg3 harg3 arg4 harg4 arg5 harg5 arg6 harg6 arg7 harg7 arg8 harg8 arg9 harg9 hc0 x0 x1 x2

/-- Case B: the output block left. -/
theorem out_B_3 (hc0 : ¬cond0_0 i) : out0_B_3 c i arg1 harg1 arg2 harg2 arg3 harg3 arg4 harg4 arg5 harg5 arg6 harg6 arg7 harg7 arg8 harg8 arg9 harg9 hc0 x0 x1 x2 xs0 = prod (deqBlock x0) xs0 := by
  unfold out0_B_3
  rw [View.read_writes_junk_eq_canon]
  refine funext fun y => View.canon_apply_of_pieces _ _ ?_ y
    (cover0_B_3 c i arg1 harg1 arg2 harg2 arg3 harg3 arg4 harg4 arg5 harg5 arg6 harg6 arg7 harg7 arg8 harg8 arg9 harg9 hc0 x0 x1 x2 xs0 y)
  exact (prod_B c i arg1 harg1 arg2 harg2 arg3 harg3 arg4 harg4 arg5 harg5 arg6 harg6 arg7 harg7 arg8 harg8 arg9 harg9 x0 x1 x2 xs0 hc0).mem

/-- Case B: the codes block left. -/
theorem out_B_4 (hc0 : ¬cond0_0 i) : out0_B_4 c i arg1 harg1 arg2 harg2 arg3 harg3 arg4 harg4 arg5 harg5 arg6 harg6 arg7 harg7 arg8 harg8 arg9 harg9 hc0 x0 x1 x2 xs0 = codesBlock x0 := by
  unfold out0_B_4
  rw [View.read_writes_junk_eq_canon]
  refine funext fun y => View.canon_apply_of_pieces _ _ ?_ y
    (cover0_B_4 c i arg1 harg1 arg2 harg2 arg3 harg3 arg4 harg4 arg5 harg5 arg6 harg6 arg7 harg7 arg8 harg8 arg9 harg9 hc0 x0 x1 x2 xs0 y)
  exact (codes_B c i arg1 harg1 arg2 harg2 arg3 harg3 arg4 harg4 arg5 harg5 arg6 harg6 arg7 harg7 arg8 harg8 arg9 harg9 x0 x1 x2 xs0 hc0).mem

/-- Case B: the scales block left. -/
theorem out_B_5 (hc0 : ¬cond0_0 i) : out0_B_5 c i arg1 harg1 arg2 harg2 arg3 harg3 arg4 harg4 arg5 harg5 arg6 harg6 arg7 harg7 arg8 harg8 arg9 harg9 hc0 x0 x1 x2 xs0 = scalesBlock x0 := by
  unfold out0_B_5
  rw [View.read_writes_junk_eq_canon, scales_B]
  refine (View.canon_cons_unit_lit _ _ _ (fun a => by fin_cases a <;> rfl)).trans (funext fun y => ?_)
  obtain ⟨r, g, rfl⟩ : ∃ (r : Fin 512) (g : Fin 15), y = ix2 r g := ⟨y 0, y 1, eq_ix2 y⟩
  refine (scalesV_apply _ r g).trans (congrArg Ladder.scale (congrArg most (funext fun k => ?_)))
  exact congrFun (groups_eq arg1 harg1 x0 g) (ix2 r k)

/-- Case B: the carried scratch is left as it was. -/
theorem sout_B (hc0 : ¬cond0_0 i) : sout0_B_0 c i arg1 harg1 arg2 harg2 arg3 harg3 arg4 harg4 arg5 harg5 arg6 harg6 arg7 harg7 arg8 harg8 arg9 harg9 hc0 x0 x1 x2 xs0 = xs0 := rfl

end Cert.KernelIdeal.Product
-- ==== Proof.Inputs.lean ====
module
public import proofs.«01_k».proof.Proof.Outs
public import proofs.«01_k».proof.Proof.Gen.KernelIdeal.Value

/-! The blocks a point reads: 512 tokens of the reshaped array, and the weight and its scales whole. -/

@[expose] public section

namespace Cert.KernelIdeal.Product
open Idealize.ShloMosaic Idealize.ShloMosaic.TcCoe Cert.KernelIdeal Cert.KernelIdeal.Gen Cert.KernelIdeal.Quant
variable {F : FTy → Type} [FloatOps F]
variable (m : (ℓ : Loc nD τ sig) → Buf (Elt F) ℓ) (c : Dev nD)

/-- The tokens flattened: token `s` is token `s % 2048` of sequence `s / 2048`. -/
theorem flat_apply (X : Vec F S2x2048x1920 .bf16) (s : Fin 4096) (n : Fin 1920) :
    shapeCast S4096x1920 X shapeCasts_S2x2048x1920_S4096x1920 (ix2 s n)
      = X (ix3 (n0 := 2) (n1 := 2048) (n2 := 1920) ⟨s.val / 2048, by omega⟩ ⟨s.val % 2048, Nat.mod_lt _ (by decide)⟩ n) := by
  pointwise

/-- The tokens as the region finds them. -/
theorem tokens : V m c main_v0 = shapeCast S4096x1920 (m ((c : Thread nD τ).loc main_arg0)) shapeCasts_S2x2048x1920_S4096x1920 := by
  rfl

/-- The weight is read whole. -/
theorem iblk1 (t : Fin cfg0.N) : iblk m c 1 t = (m ((c : Thread nD τ).loc main_arg1) : Vec F S1920x2048 .fp8e4m3) := by
  have hz : ∀ a, win0_1.index t a * main_arg1.ty.shape.size a = 0 := by
    revert t; decide +kernel
  unfold iblk
  refine Eq.trans ?_ (V_main_arg1 m c)
  exact (Memref.read_access_unit_zero (Elt F) main_arg1 (funext hz) (fun a => by rw [hz a]; simp) (V m c main_arg1))

/-- The weight's scales are read whole. -/
theorem iblk2 (t : Fin cfg0.N) : iblk m c 2 t = (m ((c : Thread nD τ).loc main_arg2) : Vec F S15x16 .f32) := by
  have hz : ∀ a, win0_2.index t a * main_arg2.ty.shape.size a = 0 := by
    revert t; decide +kernel
  unfold iblk
  refine Eq.trans ?_ (V_main_arg2 m c)
  exact (Memref.read_access_unit_zero (Elt F) main_arg2 (funext hz) (fun a => by rw [hz a]; simp) (V m c main_arg2))

/-- Row `r` of the block of point `t` is token `512 t + r`. -/
theorem iblk0 (t : Fin cfg0.N) (r : Fin 512) (n : Fin 1920) (s : Fin 4096) (hs : s.val = 512 * t.val + r.val) :
    (iblk m c 0 t : Vec F S512x1920 .bf16) (ix2 r n) = m ((c : Thread nD τ).loc main_arg0)
      (ix3 (n0 := 2) (n1 := 2048) (n2 := 1920) ⟨s.val / 2048, by omega⟩ ⟨s.val % 2048, Nat.mod_lt _ (by decide)⟩ n) := by
  have hx : ∀ t : Fin cfg0.N, win0_0.index t 0 * win0_0.size 0 = 512 * t.val ∧ win0_0.index t 1 * win0_0.size 1 = 0 := by
    decide +kernel
  have e : (iblk m c 0 t : Vec F S512x1920 .bf16) (ix2 r n) = V m c main_v0 (ix2 (n0 := 4096) (n1 := 1920) s n) := by
    unfold iblk
    rw [View.read_apply]
    refine congrArg (V m c main_v0) (funext fun a => Fin.ext ?_)
    fin_cases a
    · show win0_0.index t 0 * win0_0.size 0 + 1 * r.val = s.val
      rw [(hx t).1]; omega
    · show win0_0.index t 1 * win0_0.size 1 + 1 * n.val = n.val
      rw [(hx t).2]; omega
  rw [e, tokens]
  exact flat_apply _ s n

end Cert.KernelIdeal.Product
-- ==== Proof.Arrays.lean ====
module
public import proofs.«01_k».proof.Proof.Inputs

/-! The kernel's three result arrays at an index, as numbers of the arguments. -/

@[expose] public section

namespace Cert.KernelIdeal.Product
open Idealize.ShloMosaic Idealize.ShloMosaic.TcCoe Cert.KernelIdeal Cert.KernelIdeal.Gen Cert.KernelIdeal.Quant
  Cert.KernelIdeal.Regroup

/-- Number `k` of group `g` of token `s`. -/
def xg (x : Vec Ideal S2x2048x1920 .bf16) (s : Fin 4096) (g : Fin 15) (k : Fin 128) : EReal :=
  x (ix3 (n0 := 2) (n1 := 2048) (n2 := 1920) ⟨s.val / 2048, by omega⟩ ⟨s.val % 2048, Nat.mod_lt _ (by decide)⟩
    ⟨128 * g.val + k.val, by omega⟩)

/-- The weight dequantised and laid out head by head. -/
noncomputable def carriedW (w : Vec Ideal S1920x2048 .fp8e4m3) (ws : Vec Ideal S15x16 .f32) : Vec Ideal S1920x2048 .bf16 :=
  fun y => ((w (ix2 (n0 := 1920) (n1 := 2048) (y 0) ⟨16 * ((y 1).val % 128) + (y 1).val / 128, by
      have : (y 1).val < 2048 := (y 1).isLt
      omega⟩) : EReal)
    * (ws (ix2 (n0 := 15) (n1 := 16) ⟨(y 0).val / 128, by have : (y 0).val < 1920 := (y 0).isLt; omega⟩
        ⟨(y 1).val % 128 / 8, by omega⟩) : EReal) : EReal)

/-- The carried weight is the weight dequantised. -/
theorem weight_eq (c : Dev nD) (arg3 : Memref sig .tc .vmem S15x16 .f32) (harg3 : arg3.IsWhole)
    (arg8 : Memref sig .tc .vmem S16x128 .f32) (w : Vec Ideal S1920x2048 .fp8e4m3) (ws : Vec Ideal S15x16 .f32) :
    weight c arg3 harg3 arg8 w ws = carriedW w ws := by
  refine funext fun y => ?_
  have h0 : (y 0).val < 1920 := (y 0).isLt
  have e := scales_read (F := Ideal) c arg3 harg3 arg8 ws ⟨(y 0).val / 128, by omega⟩
    ⟨(y 1).val % 128, Nat.mod_lt _ (by decide)⟩
  unfold weight W carriedW
  exact congrArg (fun b : EReal => (w _ : EReal) * b) e

variable (m : (ℓ : Loc nD τ sig) → Buf (Elt Ideal) ℓ) (c : Dev nD)

/-- The tokens. -/
abbrev argX : Vec Ideal S2x2048x1920 .bf16 := m ((c : Thread nD τ).loc main_arg0)
/-- The weight's codes. -/
abbrev argW : Vec Ideal S1920x2048 .fp8e4m3 := m ((c : Thread nD τ).loc main_arg1)
/-- The weight's scales. -/
abbrev argS : Vec Ideal S15x16 .f32 := m ((c : Thread nD τ).loc main_arg2)

/-- After every point the scratch holds the weight dequantised. -/
theorem scratch : ∀ (n : ℕ) (hn : n < cfg0.N), (outsAt0 m c n hn).2.2.2 = carriedW (argW m c) (argS m c)
  | 0, hn => by
    rw [outsAt0_A m c ⟨0, hn⟩ rfl]
    refine (sout_A ..).trans ((weight_eq ..).trans ?_)
    rw [iblk1, iblk2]
  | n + 1, hn => by
    have hN : cfg0.N = 8 := N_0
    have hB : ¬(⟨n + 1, hn⟩ : Fin cfg0.N).val % 8 = 0 := by dsimp only; omega
    rw [outsAt0_B m c ⟨n + 1, hn⟩ hB]
    exact scratch n (Nat.lt_of_succ_lt hn)

/-- The output, codes and scales blocks a point leaves. -/
theorem blocks (t : Fin cfg0.N) :
    (outsAt0 m c t.val t.isLt).1 = prod (deqBlock (iblk m c 0 t)) (carriedW (argW m c) (argS m c))
    ∧ (outsAt0 m c t.val t.isLt).2.1 = codesBlock (iblk m c 0 t)
    ∧ (outsAt0 m c t.val t.isLt).2.2.1 = scalesBlock (iblk m c 0 t) := by
  by_cases h : t.val % 8 = 0
  · rw [outsAt0_A m c t h]
    dsimp only
    rw [out_A_3, out_A_4, out_A_5, weight_eq, iblk1, iblk2]
    exact ⟨rfl, rfl, rfl⟩
  · rw [outsAt0_B m c t h]
    dsimp only
    rw [out_B_3, out_B_4, out_B_5, scratch]
    exact ⟨rfl, rfl, rfl⟩

/-- A group of a block is the group of its token. -/
theorem group_at (t : Fin cfg0.N) (r : Fin 512) (g : Fin 15) (s : Fin 4096) (hs : s.val = 512 * t.val + r.val) (k : Fin 128) :
    (iblk m c 0 t : Vec Ideal S512x1920 .bf16) (gix r g k) = xg (argX m c) s g k :=
  iblk0 m c t r _ s hs

/-- Group of a column. -/
def grp (n : Fin 1920) : Fin 15 := ⟨n.val / 128, by omega⟩
/-- Place of a column in its group. -/
def plc (n : Fin 1920) : Fin 128 := ⟨n.val % 128, Nat.mod_lt _ (by decide)⟩

/-- A code of a token. -/
noncomputable def codeAt (x : Vec Ideal S2x2048x1920 .bf16) (s : Fin 4096) (n : Fin 1920) : EReal :=
  code (most (xg x s (grp n))) (xg x s (grp n) (plc n))
/-- A scale of a token. -/
noncomputable def scaleAt (x : Vec Ideal S2x2048x1920 .bf16) (s : Fin 4096) (g : Fin 15) : EReal :=
  Ladder.scale (most (xg x s g))

/-- The codes of a block, at an index. -/
theorem codesBlock_apply (t : Fin cfg0.N) (r : Fin 512) (n : Fin 1920) (s : Fin 4096) (hs : s.val = 512 * t.val + r.val) :
    codesBlock (iblk m c 0 t) (ix2 r n) = codeAt (argX m c) s n := by
  refine (codesV_apply (blk (F := Ideal) (iblk m c 0 t) (grp n)) r (plc n)).trans ?_
  exact congrArg₂ code (congrArg most (funext fun k => group_at m c t r (grp n) s hs k)) (group_at m c t r (grp n) s hs (plc n))

/-- The dequantised block, at an index. -/
theorem deqBlock_apply (t : Fin cfg0.N) (r : Fin 512) (n : Fin 1920) (s : Fin 4096) (hs : s.val = 512 * t.val + r.val) :
    deqBlock (iblk m c 0 t) (ix2 r n) = codeAt (argX m c) s n * scaleAt (argX m c) s (grp n) := by
  refine (deqV_apply (blk (F := Ideal) (iblk m c 0 t) (grp n)) r (plc n)).trans ?_
  have e := (funext fun k => group_at m c t r (grp n) s hs k : (fun k => (blk (F := Ideal) (iblk m c 0 t) (grp n)) (ix2 r k)) = _)
  exact congrArg₂ (fun a b : EReal => a * b)
    (congrArg₂ code (congrArg most e) (group_at m c t r (grp n) s hs (plc n))) (congrArg (fun f => Ladder.scale (most f)) e)

/-- The second result at an index. -/
theorem G4_apply (s : Fin 4096) (n : Fin 1920) : (Value.G4 m c : Vec Ideal S4096x1920 .fp8e4m3) (ix2 s n) = codeAt (argX m c) s n := by
  have hN : cfg0.N = 8 := N_0
  have hp : Value.pt4Of (ix2 (n0 := 4096) (n1 := 1920) s n) = s.val / 512 := by
    show 1 * (s.val / 512 - 0) + 1 * (n.val / 1920 - 0) = s.val / 512
    omega
  have h : Value.pt4Of (ix2 (n0 := 4096) (n1 := 1920) s n) < cfg0.N := by rw [hp, hN]; omega
  unfold Value.G4
  rw [dif_pos h, ← Value.outsAt0_sweep m c _ h, (blocks m c ⟨_, h⟩).2.1]
  have hl : Value.loc4Of (ix2 (n0 := 4096) (n1 := 1920) s n) = ix2 (n0 := 512) (n1 := 1920) ⟨s.val % 512, by omega⟩ n := by
    refine funext fun a => Fin.ext ?_
    fin_cases a
    · rfl
    · show n.val % 1920 = n.val
      omega
  rw [hl]
  refine codesBlock_apply m c _ _ n s ?_
  show s.val = 512 * Value.pt4Of (ix2 (n0 := 4096) (n1 := 1920) s n) + s.val % 512
  rw [hp]; omega

/-- The third result at an index. -/
theorem G5_apply (s : Fin 4096) (g : Fin 15) : (Value.G5 m c : Vec Ideal S4096x15 .f32) (ix2 s g) = scaleAt (argX m c) s g := by
  have hN : cfg0.N = 8 := N_0
  have hp : Value.pt5Of (ix2 (n0 := 4096) (n1 := 15) s g) = s.val / 512 := by
    show 1 * (s.val / 512 - 0) + 1 * (g.val / 15 - 0) = s.val / 512
    omega
  have h : Value.pt5Of (ix2 (n0 := 4096) (n1 := 15) s g) < cfg0.N := by rw [hp, hN]; omega
  unfold Value.G5
  rw [dif_pos h, ← Value.outsAt0_sweep m c _ h, (blocks m c ⟨_, h⟩).2.2]
  have hl : Value.loc5Of (ix2 (n0 := 4096) (n1 := 15) s g) = ix2 (n0 := 512) (n1 := 15) ⟨s.val % 512, by omega⟩ g := by
    refine funext fun a => Fin.ext ?_
    fin_cases a
    · rfl
    · show g.val % 15 = g.val
      omega
  rw [hl]
  refine congrArg (fun f => Ladder.scale (most f)) (funext fun k => group_at m c _ _ g s ?_ k)
  show s.val = 512 * Value.pt5Of (ix2 (n0 := 4096) (n1 := 15) s g) + s.val % 512
  rw [hp]; omega

/-- The first result at an index: a token, a head and a lane. -/
theorem G3_apply (s : Fin 4096) (h' : Fin 16) (l : Fin 128) :
    @Eq EReal ((Value.G3 m c : Vec Ideal S4096x16x128 .bf16) (ix3 s h' l))
    (∑ k : Fin 1920, (codeAt (argX m c) s k * scaleAt (argX m c) s (grp k))
      * ((argW m c (ix2 (n0 := 1920) (n1 := 2048) k ⟨16 * l.val + h'.val, by omega⟩) : EReal)
        * (argS m c (ix2 (n0 := 15) (n1 := 16) (grp k) ⟨l.val / 8, by omega⟩) : EReal))) := by
  have hN : cfg0.N = 8 := N_0
  have hp : Value.pt3Of (ix3 (n0 := 4096) (n1 := 16) (n2 := 128) s h' l) = s.val / 512 := by
    show 1 * (s.val / 512 - 0) + 1 * (h'.val / 16 - 0) + 1 * (l.val / 128 - 0) = s.val / 512
    omega
  have h : Value.pt3Of (ix3 (n0 := 4096) (n1 := 16) (n2 := 128) s h' l) < cfg0.N := by rw [hp, hN]; omega
  unfold Value.G3
  rw [dif_pos h, ← Value.outsAt0_sweep m c _ h, (blocks m c ⟨_, h⟩).1]
  have hl : Value.loc3Of (ix3 (n0 := 4096) (n1 := 16) (n2 := 128) s h' l)
      = ix3 (n0 := 512) (n1 := 16) (n2 := 128) ⟨s.val % 512, by omega⟩ h' l := by
    refine funext fun a => Fin.ext ?_
    fin_cases a
    · rfl
    · show h'.val % 16 = h'.val
      omega
    · show l.val % 128 = l.val
      omega
  rw [hl]
  refine Finset.sum_congr rfl fun k _ => congrArg₂ (fun a b : EReal => a * b) ?_ ?_
  · refine deqBlock_apply m c _ _ k s ?_
    show s.val = 512 * Value.pt3Of (ix3 (n0 := 4096) (n1 := 16) (n2 := 128) s h' l) + s.val % 512
    rw [hp]; omega
  · refine congrArg₂ (fun a b : EReal => a * b) (congrArg (argW m c) (congrArg (ix2 (n0 := 1920) (n1 := 2048) k) (Fin.ext ?_)))
      (congrArg (argS m c) (congrArg (ix2 (n0 := 15) (n1 := 16) (grp k)) (Fin.ext ?_)))
    · show 16 * ((128 * h'.val + l.val) % 128) + (128 * h'.val + l.val) / 128 = 16 * l.val + h'.val
      omega
    · show (128 * h'.val + l.val) % 128 / 8 = l.val / 8
      omega

end Cert.KernelIdeal.Product
-- ==== Proof.Scales.lean ====
module
public import proofs.«01_k».proof.Proof.PreAt
public import proofs.«01_k».proof.Proof.Arrays

/-! The kernel's scale and its inverse are the reference's powers of two. -/

@[expose] public section

namespace Cert.Equation
open Idealize.ShloMosaic Cert.KernelIdeal.Quant

/-- Two to an integer, as the reference's power. -/
theorem pow_two (j : ℤ) : Ideal.pow ((2:ℝ) : EReal) (((j:ℝ)) : EReal) = Ladder.p2 j := by
  rw [Ideal.pow_coe_coe]
  exact congrArg (fun r : ℝ => (r : EReal)) (Real.rpow_intCast 2 j)

/-- The kernel's scale and its inverse are two to the reference's exponent and to its negative. -/
theorem scale_eq {z : EReal} (h : z = 0 ∨ ∃ a : ℝ, z = (a : EReal) ∧
    (7/8 : ℝ) * (2:ℝ)^(-117:ℤ) ≤ a ∧ a < (7/8 : ℝ) * (2:ℝ)^(128:ℤ)) :
    Ideal.pow ((2:ℝ) : EReal) (Ladder.expo z) = Ladder.scale z ∧
      Ideal.pow ((2:ℝ) : EReal) (-(Ladder.expo z)) = Ladder.inv z := by
  rcases h with rfl | ⟨a, rfl, hl, ha⟩
  · have e : Ladder.expo 0 = (((0:ℤ) : ℝ) : EReal) := by
      unfold Ladder.expo; rw [if_pos rfl]; norm_num
    have e' : -(Ladder.expo 0) = (((0:ℤ) : ℝ) : EReal) := by
      rw [e]; norm_num
    have o : Ladder.p2 0 = 1 := by unfold Ladder.p2; norm_num
    rw [e', e, pow_two, o, Ladder.zero_case.1, Ladder.zero_case.2]
    exact ⟨rfl, rfl⟩
  · obtain ⟨j, h1, h2, h3⟩ := Ladder.range_case hl ha
    have e' : -(Ladder.expo (a : EReal)) = (((-j : ℤ) : ℝ) : EReal) := by
      rw [h3, ← EReal.coe_neg, Int.cast_neg]
    rw [e', h3, h1, h2, pow_two, pow_two]
    exact ⟨rfl, rfl⟩

end Cert.Equation
-- ==== Proof.RefRegion.lean ====
module
public import proofs.«01_k».proof.Proof.RefTerm
public import Idealize.ShloMosaic.Lib.Pipeline.Value

/-! What the reference's one kernel call leaves: its casts, whole arrays. -/

@[expose] public section

noncomputable section

namespace Cert.ReferenceIdeal.Term
open Idealize.ShloMosaic Idealize.ShloMosaic.TcCoe Cert.ReferenceIdeal Cert.ReferenceIdeal.Gen Idealize.ShloMosaic.StableHlo
open Cert.ReferenceIdeal.Value

variable {F : FTy → Type} [FloatOps F]
variable (m : (ℓ : Loc nD τ sig) → Buf (Elt F) ℓ)

theorem hz : (![0, 0] : Fin 2 → Nat) = fun _ => 0 := funext fun a => by fin_cases a <;> rfl

/-- The call's first operand is the clipped tokens. -/
theorem block_rows (c : Dev nD) (t : Fin cfg0.N) :
    Gen.iblk m c 0 t = rows (m ((c.tc : Thread nD τ).loc main_arg0)) := by
  have hz0 : ∀ a, (cfg0.win 0).index t a * main_v25.ty.shape.size a = 0 := by
    revert t; decide +kernel
  exact (Memref.read_access_unit_zero (Elt F) main_v25 (funext hz0) (fun a => by rw [hz0 a]; simp) _).trans (V_rows m c)

/-- The call's second operand is the weight. -/
theorem block_weight (c : Dev nD) (t : Fin cfg0.N) :
    Gen.iblk m c 1 t = m ((c.tc : Thread nD τ).loc main_arg1) := by
  have hz0 : ∀ a, (cfg0.win 1).index t a * main_arg1.ty.shape.size a = 0 := by
    revert t; decide +kernel
  exact (Memref.read_access_unit_zero (Elt F) main_arg1 (funext hz0) (fun a => by rw [hz0 a]; simp) _).trans (Gen.V_main_arg1 m c)

/-- The codes of the clipped tokens. -/
def codes (x : Vec F S2x2048x1920 .bf16) : Vec F S4096x1920 .fp8e4m3 := k0_pay1 (rows x)
/-- The codes' numbers. -/
def codes16 (x : Vec F S2x2048x1920 .bf16) : Vec F S4096x1920 .bf16 := k0_pay2 (rows x)

/-- The body's first result. -/
theorem out_2 (x0 : Vec F S4096x1920 .f32) (x1 : Vec F S1920x2048 .fp8e4m3) : out0_2 x0 x1 = k0_pay1 x0 := by
  unfold out0_2
  rw [View.canon_unit_zero hz, View.ld_unit_zero (S := S4096x1920) hz]

/-- The body's second result. -/
theorem out_3 (x0 : Vec F S4096x1920 .f32) (x1 : Vec F S1920x2048 .fp8e4m3) : out0_3 x0 x1 = k0_pay2 x0 := by
  unfold out0_3
  rw [View.canon_unit_zero hz, View.ld_unit_zero (S := S4096x1920) hz]

/-- The body's third result. -/
theorem out_4 (x0 : Vec F S4096x1920 .f32) (x1 : Vec F S1920x2048 .fp8e4m3) : out0_4 x0 x1 = k0_pay3 x1 := by
  unfold out0_4
  rw [View.canon_unit_zero hz, View.ld_unit_zero (S := S1920x2048) hz]

/-- The call's first result: the codes. -/
theorem reg_codes (c : Dev nD) : reg_main_v26_0 m c = codes (m ((c.tc : Thread nD τ).loc main_arg0)) := by
  unfold reg_main_v26_0
  refine (dats m 0 c).arrAt_eq_of_cover 2 (codes (m ((c.tc : Thread nD τ).loc main_arg0))) ?_ ?_
  · intro t _
    show (cfg0.win 2).cut (grid0.coords t) ((dats m 0 c).after 2 t) = _
    rw [after0_2 m c t, out_2, block_rows]
    have hz0 : ∀ a, (cfg0.win 2).index t a * main_v26_0.ty.shape.size a = 0 := by
      revert t; decide +kernel
    exact (Memref.read_access_unit_zero (Elt F) main_v26_0 (funext hz0) (fun a => by rw [hz0 a]; simp) _).symm
  · intro i
    refine ⟨t0_0, flush0_2 _, ?_⟩
    show i ∈ ((View.whole main_v26_0).slice (win0_2.rect t0_0)).set
    rw [View.set_slice_whole, Rect.mem_set_unit]
    intro a
    have h0 : (i 0).val < 4096 := (i 0).isLt
    have h1 : (i 1).val < 1920 := (i 1).isLt
    match a with
    | ⟨0, _⟩ =>
      show win0_2.index t0_0 0 * win0_2.size 0 ≤ (i 0).val ∧ (i 0).val < win0_2.index t0_0 0 * win0_2.size 0 + win0_2.xsize (grid0.coords t0_0) 0
      rw [show win0_2.index t0_0 0 * win0_2.size 0 = 0 from by decide +kernel, show win0_2.xsize (grid0.coords t0_0) 0 = 4096 from by decide +kernel]; omega
    | ⟨1, _⟩ =>
      show win0_2.index t0_0 1 * win0_2.size 1 ≤ (i 1).val ∧ (i 1).val < win0_2.index t0_0 1 * win0_2.size 1 + win0_2.xsize (grid0.coords t0_0) 1
      rw [show win0_2.index t0_0 1 * win0_2.size 1 = 0 from by decide +kernel, show win0_2.xsize (grid0.coords t0_0) 1 = 1920 from by decide +kernel]; omega

/-- The call's second result: the codes' numbers. -/
theorem reg_codes16 (c : Dev nD) : reg_main_v26_1 m c = codes16 (m ((c.tc : Thread nD τ).loc main_arg0)) := by
  unfold reg_main_v26_1
  refine (dats m 0 c).arrAt_eq_of_cover 3 (codes16 (m ((c.tc : Thread nD τ).loc main_arg0))) ?_ ?_
  · intro t _
    show (cfg0.win 3).cut (grid0.coords t) ((dats m 0 c).after 3 t) = _
    rw [after0_3 m c t, out_3, block_rows]
    have hz0 : ∀ a, (cfg0.win 3).index t a * main_v26_1.ty.shape.size a = 0 := by
      revert t; decide +kernel
    exact (Memref.read_access_unit_zero (Elt F) main_v26_1 (funext hz0) (fun a => by rw [hz0 a]; simp) _).symm
  · intro i
    refine ⟨t0_0, flush0_3 _, ?_⟩
    show i ∈ ((View.whole main_v26_1).slice (win0_3.rect t0_0)).set
    rw [View.set_slice_whole, Rect.mem_set_unit]
    intro a
    have h0 : (i 0).val < 4096 := (i 0).isLt
    have h1 : (i 1).val < 1920 := (i 1).isLt
    match a with
    | ⟨0, _⟩ =>
      show win0_3.index t0_0 0 * win0_3.size 0 ≤ (i 0).val ∧ (i 0).val < win0_3.index t0_0 0 * win0_3.size 0 + win0_3.xsize (grid0.coords t0_0) 0
      rw [show win0_3.index t0_0 0 * win0_3.size 0 = 0 from by decide +kernel, show win0_3.xsize (grid0.coords t0_0) 0 = 4096 from by decide +kernel]; omega
    | ⟨1, _⟩ =>
      show win0_3.index t0_0 1 * win0_3.size 1 ≤ (i 1).val ∧ (i 1).val < win0_3.index t0_0 1 * win0_3.size 1 + win0_3.xsize (grid0.coords t0_0) 1
      rw [show win0_3.index t0_0 1 * win0_3.size 1 = 0 from by decide +kernel, show win0_3.xsize (grid0.coords t0_0) 1 = 1920 from by decide +kernel]; omega

/-- The call's third result: the weight's numbers. -/
theorem reg_weight (c : Dev nD) :
    reg_main_v26_2 m c = k0_pay3 (F := F) (m ((c.tc : Thread nD τ).loc main_arg1)) := by
  unfold reg_main_v26_2
  refine (dats m 0 c).arrAt_eq_of_cover 4 (k0_pay3 (F := F) (m ((c.tc : Thread nD τ).loc main_arg1))) ?_ ?_
  · intro t _
    show (cfg0.win 4).cut (grid0.coords t) ((dats m 0 c).after 4 t) = _
    rw [after0_4 m c t, out_4, block_weight]
    have hz0 : ∀ a, (cfg0.win 4).index t a * main_v26_2.ty.shape.size a = 0 := by
      revert t; decide +kernel
    exact (Memref.read_access_unit_zero (Elt F) main_v26_2 (funext hz0) (fun a => by rw [hz0 a]; simp) _).symm
  · intro i
    refine ⟨t0_0, flush0_4 _, ?_⟩
    show i ∈ ((View.whole main_v26_2).slice (win0_4.rect t0_0)).set
    rw [View.set_slice_whole, Rect.mem_set_unit]
    intro a
    have h0 : (i 0).val < 1920 := (i 0).isLt
    have h1 : (i 1).val < 2048 := (i 1).isLt
    match a with
    | ⟨0, _⟩ =>
      show win0_4.index t0_0 0 * win0_4.size 0 ≤ (i 0).val ∧ (i 0).val < win0_4.index t0_0 0 * win0_4.size 0 + win0_4.xsize (grid0.coords t0_0) 0
      rw [show win0_4.index t0_0 0 * win0_4.size 0 = 0 from by decide +kernel, show win0_4.xsize (grid0.coords t0_0) 0 = 1920 from by decide +kernel]; omega
    | ⟨1, _⟩ =>
      show win0_4.index t0_0 1 * win0_4.size 1 ≤ (i 1).val ∧ (i 1).val < win0_4.index t0_0 1 * win0_4.size 1 + win0_4.xsize (grid0.coords t0_0) 1
      rw [show win0_4.index t0_0 1 * win0_4.size 1 = 0 from by decide +kernel, show win0_4.xsize (grid0.coords t0_0) 1 = 2048 from by decide +kernel]; omega

end Cert.ReferenceIdeal.Term
-- ==== Proof.RefOut.lean ====
module
public import proofs.«01_k».proof.Proof.RefAt
public import proofs.«01_k».proof.Proof.Gen.ReferenceIdeal.Read

/-! The reference's product at an index. -/

@[expose] public section

namespace Cert.ReferenceIdeal.Term
open Idealize.ShloMosaic Idealize.ShloMosaic.TcCoe Cert.ReferenceIdeal Cert.ReferenceIdeal.Gen Cert.ReferenceIdeal.Read

variable (x2 : FVec Ideal S15x16 .f32) (r1 : FVec Ideal S4096x1920 .bf16) (r2 : FVec Ideal S1920x2048 .bf16)
  (e0 : FVec Ideal S2x2048x15 .f32)

/-- A dequantised token number. -/
theorem tokens_apply (i : Fin 2) (j : Fin 2048) (k : Fin 1920) :
    val_main_v32 (F := Ideal) r1 e0 (ix3 (n0 := 2) (n1 := 2048) (n2 := 1920) i j k)
      = @HMul.hMul EReal EReal EReal _
        (r1 (ix2 (n0 := 4096) (n1 := 1920) ⟨i.val * 2048 + j.val, by omega⟩ k))
        (e0 (ix3 (n0 := 2) (n1 := 2048) (n2 := 15) i j ⟨k.val / 128, by omega⟩)) := by
  rw [val_main_v32_apply, val_main_v31_apply, val_main_v27_apply, val_main_v30_apply, val_main_v29_apply,
    val_main_v28_apply]
  have e1 : idx_main_v27 (idx_main_v32 (ix3 (n0 := 2) (n1 := 2048) (n2 := 1920) i j k))
      = ix2 (n0 := 4096) (n1 := 1920) ⟨i.val * 2048 + j.val, by omega⟩ k := by
    funext a
    apply Fin.ext
    match a with
    | ⟨0, _⟩ => show _ = i.val * 2048 + j.val; dsimp [idx_main_v27, idx_main_v32]; omega
    | ⟨1, _⟩ => show _ = k.val; dsimp [idx_main_v27, idx_main_v32]; omega
  have e2 : idx_main_v29 (idx_main_v30 (idx_main_v32 (ix3 (n0 := 2) (n1 := 2048) (n2 := 1920) i j k)))
      = ix3 (n0 := 2) (n1 := 2048) (n2 := 15) i j ⟨k.val / 128, by omega⟩ := by
    funext a
    apply Fin.ext
    match a with
    | ⟨0, _⟩ => show _ = i.val; dsimp [idx_main_v29, idx_main_v30, idx_main_v32]; omega
    | ⟨1, _⟩ => show _ = j.val; dsimp [idx_main_v29, idx_main_v30, idx_main_v32]; omega
    | ⟨2, _⟩ => show _ = k.val / 128; dsimp [idx_main_v29, idx_main_v30, idx_main_v32]; omega
  rw [e1, e2]
  rfl

/-- A dequantised weight. -/
theorem weights_apply (k : Fin 1920) (n : Fin 2048) :
    val_main_v38 (F := Ideal) x2 r2 (ix2 (n0 := 1920) (n1 := 2048) k n)
      = @HMul.hMul EReal EReal EReal _ (r2 (ix2 (n0 := 1920) (n1 := 2048) k n))
        (x2 (ix2 (n0 := 15) (n1 := 16) ⟨k.val / 128, by omega⟩ ⟨n.val / 128, by omega⟩)) := by
  rw [val_main_v38_apply, val_main_v37_apply, val_main_v33_apply, val_main_v36_apply, val_main_v35_apply,
    val_main_v34_apply]
  have e1 : idx_main_v33 (idx_main_v38 (ix2 (n0 := 1920) (n1 := 2048) k n)) = ix2 (n0 := 1920) (n1 := 2048) k n := by
    funext a
    apply Fin.ext
    match a with
    | ⟨0, _⟩ => show _ = k.val; dsimp [idx_main_v33, idx_main_v38]; omega
    | ⟨1, _⟩ => show _ = n.val; dsimp [idx_main_v33, idx_main_v38]; omega
  have e2 : idx_main_v35 (idx_main_v36 (idx_main_v38 (ix2 (n0 := 1920) (n1 := 2048) k n)))
      = ix2 (n0 := 15) (n1 := 16) ⟨k.val / 128, by omega⟩ ⟨n.val / 128, by omega⟩ := by
    funext a
    apply Fin.ext
    match a with
    | ⟨0, _⟩ => show _ = k.val / 128; dsimp [idx_main_v35, idx_main_v36, idx_main_v38]; omega
    | ⟨1, _⟩ => show _ = n.val / 128; dsimp [idx_main_v35, idx_main_v36, idx_main_v38]; omega
  rw [e1, e2]
  rfl

/-- The product at a token, a head and a lane. -/
theorem out_apply (s : Fin 4096) (h : Fin 16) (l : Fin 128) :
    @Eq EReal (val_main_v43 (F := Ideal) x2 r1 r2 e0 (ix3 (n0 := 4096) (n1 := 16) (n2 := 128) s h l))
      (∑ k : Fin 1920,
        (@HMul.hMul EReal EReal EReal _ (r1 (ix2 (n0 := 4096) (n1 := 1920) s k))
          (e0 (ix3 (n0 := 2) (n1 := 2048) (n2 := 15) ⟨s.val / 2048, by omega⟩ ⟨s.val % 2048, Nat.mod_lt _ (by decide)⟩
            ⟨k.val / 128, by omega⟩)))
        * (@HMul.hMul EReal EReal EReal _ (r2 (ix2 (n0 := 1920) (n1 := 2048) k ⟨16 * l.val + h.val, by omega⟩))
          (x2 (ix2 (n0 := 15) (n1 := 16) ⟨k.val / 128, by omega⟩ ⟨l.val / 8, by omega⟩)))) := by
  rw [val_main_v43_apply, val_main_v42_apply, val_main_v41_apply, val_main_v40_apply]
  refine Eq.trans (show _ = val_main_v39 (F := Ideal) x2 r1 r2 e0 _ from rfl) ?_
  rw [val_main_v39_apply]
  refine Finset.sum_congr rfl fun k _ => ?_
  have e43 : idx_main_v41 (idx_main_v43 (ix3 (n0 := 4096) (n1 := 16) (n2 := 128) s h l))
      = ix4 (n0 := 2) (n1 := 2048) (n2 := 128) (n3 := 16) ⟨s.val / 2048, by omega⟩ ⟨s.val % 2048, Nat.mod_lt _ (by decide)⟩ l h := by
    funext a
    apply Fin.ext
    match a with
    | ⟨0, _⟩ => show _ = s.val / 2048; dsimp [idx_main_v41, idx_main_v43]; omega
    | ⟨1, _⟩ => show _ = s.val % 2048; dsimp [idx_main_v41, idx_main_v43]; omega
    | ⟨2, _⟩ => show _ = l.val; dsimp [idx_main_v41, idx_main_v43]; omega
    | ⟨3, _⟩ => show _ = h.val; dsimp [idx_main_v41, idx_main_v43]; omega
  have e40 : ∀ (i : Fin 2) (j : Fin 2048), idx_main_v40 (ix4 (n0 := 2) (n1 := 2048) (n2 := 128) (n3 := 16) i j l h)
      = ix3 (n0 := 2) (n1 := 2048) (n2 := 2048) i j ⟨16 * l.val + h.val, by omega⟩ := by
    intro i j
    funext a
    apply Fin.ext
    match a with
    | ⟨0, _⟩ => show _ = i.val; dsimp [idx_main_v40]; omega
    | ⟨1, _⟩ => show _ = j.val; dsimp [idx_main_v40]; omega
    | ⟨2, _⟩ => show _ = 16 * l.val + h.val; dsimp [idx_main_v40]; omega
  rw [e43, e40]
  have e1 : lidx_main_v39 (ix3 (n0 := 2) (n1 := 2048) (n2 := 2048) ⟨s.val / 2048, by omega⟩
        ⟨s.val % 2048, Nat.mod_lt _ (by decide)⟩ ⟨16 * l.val + h.val, by omega⟩) k
      = ix3 (n0 := 2) (n1 := 2048) (n2 := 1920) ⟨s.val / 2048, by omega⟩ ⟨s.val % 2048, Nat.mod_lt _ (by decide)⟩ k := by
    funext a
    match a with
    | ⟨0, _⟩ => rfl
    | ⟨1, _⟩ => rfl
    | ⟨2, _⟩ => rfl
  have e2 : ridx_main_v39 (ix3 (n0 := 2) (n1 := 2048) (n2 := 2048) ⟨s.val / 2048, by omega⟩
        ⟨s.val % 2048, Nat.mod_lt _ (by decide)⟩ ⟨16 * l.val + h.val, by omega⟩) k
      = ix2 (n0 := 1920) (n1 := 2048) k ⟨16 * l.val + h.val, by omega⟩ := by
    funext a
    match a with
    | ⟨0, _⟩ => rfl
    | ⟨1, _⟩ => rfl
  have f1 : (⟨s.val / 2048 * 2048 + s.val % 2048, by omega⟩ : Fin 4096) = s := Fin.ext (by dsimp only; omega)
  have f2 : (⟨(16 * l.val + h.val) / 128, by omega⟩ : Fin 16) = ⟨l.val / 8, by omega⟩ := Fin.ext (by dsimp only; omega)
  rw [e1, e2, tokens_apply, weights_apply, f1, f2]

end Cert.ReferenceIdeal.Term
-- ==== Proof.Equation.lean ====
module
public import proofs.«01_k».proof.Proof.Scales
public import proofs.«01_k».proof.Proof.RefRegion
public import proofs.«01_k».proof.Proof.RefOut

/-! The kernel's three results are the reference's. -/

@[expose] public section

namespace Cert.Equation
open Idealize.ShloMosaic Idealize.ShloMosaic.TcCoe Cert.KernelIdeal.Quant Cert.KernelIdeal.Product
open Cert.ReferenceIdeal (S2x2048x1920 S1920x2048 S15x16 S4096x1920 S4096x15 S4096x16x128 S2x2048x15)

/-- What the precondition says of the tokens: every group's largest magnitude is zero or in the range. -/
def InRange (x : FVec Ideal S2x2048x1920 .bf16) : Prop :=
  ∀ (i : Fin 2) (j : Fin 2048) (g : Fin 15), most (Cert.ReferenceIdeal.Term.grp x i j g) = 0 ∨
      ∃ a : ℝ, most (Cert.ReferenceIdeal.Term.grp x i j g) = (a : EReal) ∧
        (7/8 : ℝ) * (2:ℝ)^(-117:ℤ) ≤ a ∧ a < (7/8 : ℝ) * (2:ℝ)^(128:ℤ)

/-- The reference's scale of a token's group is the kernel's. -/
theorem scale_at {x : FVec Ideal S2x2048x1920 .bf16} (h : InRange x) (s : Fin 4096) (g : Fin 15) :
    (Cert.ReferenceIdeal.Term.scales x) (ix3 (n0 := 2) (n1 := 2048) (n2 := 15) ⟨s.val / 2048, by omega⟩
      ⟨s.val % 2048, Nat.mod_lt _ (by decide)⟩ g) = scaleAt x s g := by
  rw [Cert.ReferenceIdeal.Term.scales_apply]
  exact (scale_eq (h _ _ g)).1

/-- The reference's clipped token number is the kernel's code. -/
theorem code_at {x : FVec Ideal S2x2048x1920 .bf16} (h : InRange x) (s : Fin 4096) (n : Fin 1920) :
    (Cert.ReferenceIdeal.Term.rows x) (ix2 (n0 := 4096) (n1 := 1920) s n) = codeAt x s n := by
  rw [Cert.ReferenceIdeal.Term.rows_apply, Cert.ReferenceIdeal.Term.clipped_apply, (scale_eq (h _ _ _)).2]
  rfl

/-- The reference's codes are the clipped tokens. -/
theorem codes_apply (x : FVec Ideal S2x2048x1920 .bf16) (s : Fin 4096) (n : Fin 1920) :
    @Eq EReal ((Cert.ReferenceIdeal.Term.codes (F := Ideal) x) (ix2 (n0 := 4096) (n1 := 1920) s n))
      ((Cert.ReferenceIdeal.Term.rows (F := Ideal) x) (ix2 (n0 := 4096) (n1 := 1920) s n)) := by
  unfold Cert.ReferenceIdeal.Term.codes Cert.ReferenceIdeal.Gen.k0_pay1
  rw [shapeCast_self]
  rfl

/-- So are their numbers. -/
theorem codes16_apply (x : FVec Ideal S2x2048x1920 .bf16) (s : Fin 4096) (n : Fin 1920) :
    @Eq EReal ((Cert.ReferenceIdeal.Term.codes16 (F := Ideal) x) (ix2 (n0 := 4096) (n1 := 1920) s n))
      ((Cert.ReferenceIdeal.Term.rows (F := Ideal) x) (ix2 (n0 := 4096) (n1 := 1920) s n)) :=
  (show @Eq EReal _ ((Cert.ReferenceIdeal.Term.codes (F := Ideal) x) (ix2 (n0 := 4096) (n1 := 1920) s n)) from rfl).trans (codes_apply x s n)

variable (m : (ℓ : Loc Cert.KernelIdeal.nD Cert.KernelIdeal.τ Cert.KernelIdeal.sig) → Buf (Elt Ideal) ℓ)
  (c : Dev Cert.KernelIdeal.nD)

/-- The second result: the codes. -/
theorem codes_eq (h : InRange (argX m c)) :
    @Eq (FVec Ideal S4096x1920 .fp8e4m3) (Cert.ReferenceIdeal.Term.codes (F := Ideal) (argX m c)) (Cert.KernelIdeal.Value.G4 m c) := by
  funext i
  rw [eq_ix2 i]
  refine (codes_apply (argX m c) (i 0) (i 1)).trans ?_
  exact (code_at h (i 0) (i 1)).trans (G4_apply m c (i 0) (i 1)).symm

/-- The third result: the scales. -/
theorem scales_eq (h : InRange (argX m c)) :
    @Eq (FVec Ideal S4096x15 .f32) (shapeCast S4096x15 (Cert.ReferenceIdeal.Term.scales (F := Ideal) (argX m c))
      Cert.ReferenceIdeal.Gen.shapeCasts_S2x2048x15_S4096x15) (Cert.KernelIdeal.Value.G5 m c) := by
  funext i
  rw [eq_ix2 i]
  refine (Cert.ReferenceIdeal.Term.scaleRows_apply _ (i 0) (i 1)).trans ?_
  exact (scale_at h (i 0) (i 1)).trans (G5_apply m c (i 0) (i 1)).symm

/-- The first result: the product. -/
theorem out_eq (h : InRange (argX m c)) :
    @Eq (FVec Ideal S4096x16x128 .bf16)
      (Cert.ReferenceIdeal.Read.val_main_v43 (F := Ideal) (argS m c) (Cert.ReferenceIdeal.Term.codes16 (F := Ideal) (argX m c))
        (Cert.ReferenceIdeal.Gen.k0_pay3 (F := Ideal) (argW m c)) (Cert.ReferenceIdeal.Term.scales (F := Ideal) (argX m c)))
      (Cert.KernelIdeal.Value.G3 m c) := by
  funext i
  rw [eq_ix3 i]
  refine (Cert.ReferenceIdeal.Term.out_apply _ _ _ _ (i 0) (i 1) (i 2)).trans ?_
  refine Eq.trans ?_ (G3_apply m c (i 0) (i 1) (i 2)).symm
  refine Finset.sum_congr rfl fun k _ => congrArg₂ (fun a b : EReal => a * b) ?_ rfl
  exact congrArg₂ (fun a b : EReal => a * b) ((codes16_apply (argX m c) (i 0) k).trans (code_at h (i 0) k))
    (scale_at h (i 0) (grp k))

end Cert.Equation
-- ==== Proof.Algebraic.lean ====
module
public import proofs.«01_k».proof.Defs
public import proofs.«01_k».proof.Proof.Equation

/-! The algebraic claim: the idealized kernel and the reference end with equal results. -/

@[expose] public section

namespace Cert.Equation
open Idealize.ShloMosaic Idealize.ShloMosaic.TcCoe Idealize.SL.Sem Cert.KernelIdeal.Product

/-- The precondition gives the range of every group. -/
theorem inRange_of (m : (ℓ : Loc Cert.KernelIdeal.nD Cert.KernelIdeal.τ Cert.KernelIdeal.sig) → Buf (Elt Ideal) ℓ)
    (h : Cert.Pre_KernelIdeal_in_range (hPre_in_range := Cert.Pre_in_range.facts) m)
    (c : Dev Cert.KernelIdeal.nD) : InRange (argX m c) := by
  intro i j g
  letI := Cert.Pre_in_range.facts
  refine Cert.Pre_in_range.range_at (argX m c) (argW m c) (argS m c) i j g ?_
  exact congrFun (h c) _

/-- On arguments in range the kernel and the reference end with the same three results. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.facts) := by
  intro m ρ m' ρ' hpre hagree
  refine ⟨_, _, _, Cert.KernelIdeal.Value.run (F := Ideal) m ρ, ?_⟩
  refine (θ_run Cert.ReferenceIdeal.defs _ _).mono (fun _ h c => ⟨(h c).1.trans ?_, (h c).2.1.trans ?_,
    (h c).2.2.1.trans ?_, (h c).2.2.2⟩) (Cert.ReferenceIdeal.Value.run (F := Ideal) m' ρ')
  · rw [Cert.ReferenceIdeal.Term.reg_codes16, Cert.ReferenceIdeal.Term.reg_weight, (hagree c).1, (hagree c).2.1, (hagree c).2.2]
    exact out_eq m c (inRange_of m hpre c)
  · rw [Cert.ReferenceIdeal.Term.reg_codes, (hagree c).1]
    exact codes_eq m c (inRange_of m hpre c)
  · rw [(hagree c).1]
    exact scales_eq m c (inRange_of m hpre c)

end Cert.Equation
-- ==== Proof.lean ====
module

public import proofs.«01_k».proof.Defs
public import proofs.«01_k».proof.Proof.Gen.Kernel.Frame
public import proofs.«01_k».proof.Proof.Algebraic
public import Idealize.ShloMosaic.Lib.Bf16Pair

@[expose] public section

open Idealize.ShloMosaic

/-- Every claim of the certificate. -/
theorem Cert.Proof.claim : Cert.Claim :=
  ⟨Cert.Kernel.Gen.facts, Cert.KernelIdeal.Gen.facts, Cert.ReferenceIdeal.Gen.facts, Cert.Pre_in_range.facts,
    fun m ρ _ => Cert.Kernel.Gen.frame m ρ,
    fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    ⟨IdealRules.bf16_pair.packStatement _, IdealRules.bf16_pair.statement _ _⟩,
    Cert.Equation.algebraic⟩
